-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S3x384x384 : Shape := ⟨3, ![3, 384, 384]⟩
abbrev S32x3x3x3 : Shape := ⟨4, ![32, 3, 3, 3]⟩
abbrev S32 : Shape := ⟨1, ![32]⟩
abbrev S2x32x3x3 : Shape := ⟨4, ![2, 32, 3, 3]⟩
abbrev S2 : Shape := ⟨1, ![2]⟩
abbrev S_ : Shape := ⟨0, ![]⟩

class Facts : Prop where
  bcast_S_S3x384x384 : S_.BroadcastsInDim S3x384x384 (![] : Fin 0 → Fin S3x384x384.rank)
  reducesTo_S3x384x384_S_d0_1_2 : S3x384x384.ReducesTo [0, 1, 2] S_
  h_S_ : 0 < S_.numel
  bcast_S_S32x3x3x3 : S_.BroadcastsInDim S32x3x3x3 (![] : Fin 0 → Fin S32x3x3x3.rank)
  reducesTo_S32x3x3x3_S_d0_1_2_3 : S32x3x3x3.ReducesTo [0, 1, 2, 3] S_
  bcast_S_S32 : S_.BroadcastsInDim S32 (![] : Fin 0 → Fin S32.rank)
  reducesTo_S32_S_d0 : S32.ReducesTo [0] S_
  bcast_S_S2x32x3x3 : S_.BroadcastsInDim S2x32x3x3 (![] : Fin 0 → Fin S2x32x3x3.rank)
  reducesTo_S2x32x3x3_S_d0_1_2_3 : S2x32x3x3.ReducesTo [0, 1, 2, 3] S_

variable [Facts]

def fn_part1 {F : FTy → Type} [FloatOps F] (main_v13 : IVec S_ 1) (main_v16 : IVec S2x32x3x3 1) : IVec S_ 1 :=
  let main_c_5 : IVec S_ 1 := constantI S_ 1 1#1
  let main_v17 : IVec S_ 1 := (fun x v => Host.reduce IntOp.andi x v reducesTo_S2x32x3x3_S_d0_1_2_3 h_S_) main_v16 main_c_5
  let main_v18 : IVec S_ 1 := andi main_v13 main_v17
  main_v18

def fn {F : FTy → Type} [FloatOps F] (main_arg0 : FVec F S3x384x384 .f32) (main_arg1 : FVec F S32x3x3x3 .f32) (main_arg2 : FVec F S32 .f32) (main_arg3 : FVec F S2x32x3x3 .f32) (main_arg4 : FVec F S2 .f32) : IVec S_ 1 :=
  let main_v0 : FVec F S3x384x384 .f32 := Host.absf main_arg0
  let main_cst : FVec F S_ .f32 := constant S_ .f32 0x7F800000#32
  let main_v1 : FVec F S3x384x384 .f32 := broadcastInDim S3x384x384 ![] bcast_S_S3x384x384 main_cst
  let main_v2 : IVec S3x384x384 1 := cmpf .olt main_v0 main_v1
  let main_c : IVec S_ 1 := constantI S_ 1 1#1
  let main_v3 : IVec S_ 1 := (fun x v => Host.reduce IntOp.andi x v reducesTo_S3x384x384_S_d0_1_2 h_S_) main_v2 main_c
  let main_v4 : FVec F S32x3x3x3 .f32 := Host.absf main_arg1
  let main_cst_0 : FVec F S_ .f32 := constant S_ .f32 0x7F800000#32
  let main_v5 : FVec F S32x3x3x3 .f32 := broadcastInDim S32x3x3x3 ![] bcast_S_S32x3x3x3 main_cst_0
  let main_v6 : IVec S32x3x3x3 1 := cmpf .olt main_v4 main_v5
  let main_c_1 : IVec S_ 1 := constantI S_ 1 1#1
  let main_v7 : IVec S_ 1 := (fun x v => Host.reduce IntOp.andi x v reducesTo_S32x3x3x3_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x32x3x3 .f32 := Host.absf main_arg3
  let main_cst_4 : FVec F S_ .f32 := constant S_ .f32 0x7F800000#32
  let main_v15 : FVec F S2x32x3x3 .f32 := broadcastInDim S2x32x3x3 ![] bcast_S_S2x32x3x3 main_cst_4
  let main_v16 : IVec S2x32x3x3 1 := cmpf .olt main_v14 main_v15
  fn_part1 (F := F) main_v13 main_v16
-- ==== Kernel.lean ====
abbrev S3x384x384 : Shape := ⟨3, ![3, 384, 384]⟩
abbrev S32x3x3x3 : Shape := ⟨4, ![32, 3, 3, 3]⟩
abbrev S32 : Shape := ⟨1, ![32]⟩
abbrev S2x32x3x3 : Shape := ⟨4, ![2, 32, 3, 3]⟩
abbrev S2 : Shape := ⟨1, ![2]⟩
abbrev S_ : Shape := ⟨0, ![]⟩
abbrev S3x384x352 : Shape := ⟨3, ![3, 384, 352]⟩
abbrev S3x384x320 : Shape := ⟨3, ![3, 384, 320]⟩
abbrev S3x384x288 : Shape := ⟨3, ![3, 384, 288]⟩
abbrev S1x3x384x384 : Shape := ⟨4, ![1, 3, 384, 384]⟩
abbrev S4x3x384x384 : Shape := ⟨4, ![4, 3, 384, 384]⟩
abbrev S32x27 : Shape := ⟨2, ![32, 27]⟩
abbrev S32x1 : Shape := ⟨2, ![32, 1]⟩
abbrev S1x384x384 : Shape := ⟨3, ![1, 384, 384]⟩
abbrev S384x384 : Shape := ⟨2, ![384, 384]⟩
abbrev S4x384x384 : Shape := ⟨3, ![4, 384, 384]⟩
abbrev S32x384x128 : Shape := ⟨3, ![32, 384, 128]⟩
abbrev S32x128 : Shape := ⟨2, ![32, 128]⟩
abbrev S1x3x384x128 : Shape := ⟨4, ![1, 3, 384, 128]⟩
abbrev S3x384x128 : Shape := ⟨3, ![3, 384, 128]⟩
abbrev S3x1x128 : Shape := ⟨3, ![3, 1, 128]⟩
abbrev S3x385x128 : Shape := ⟨3, ![3, 385, 128]⟩
abbrev S3x386x128 : Shape := ⟨3, ![3, 386, 128]⟩
abbrev S3x386x1 : Shape := ⟨3, ![3, 386, 1]⟩
abbrev S3x386x129 : Shape := ⟨3, ![3, 386, 129]⟩
abbrev S3x386x130 : Shape := ⟨3, ![3, 386, 130]⟩
abbrev S1x384x128 : Shape := ⟨3, ![1, 384, 128]⟩
abbrev S384x128 : Shape := ⟨2, ![384, 128]⟩
abbrev S27x384x128 : Shape := ⟨3, ![27, 384, 128]⟩
abbrev S1x1x1x1 : Shape := ⟨4, ![1, 1, 1, 1]⟩
abbrev S1 : Shape := ⟨1, ![1]⟩
abbrev S1x3x2x128 : Shape := ⟨4, ![1, 3, 2, 128]⟩
abbrev S3x2x128 : Shape := ⟨3, ![3, 2, 128]⟩
abbrev S3x2x1 : Shape := ⟨3, ![3, 2, 1]⟩
abbrev S3x2x129 : Shape := ⟨3, ![3, 2, 129]⟩
abbrev S3x2x130 : Shape := ⟨3, ![3, 2, 130]⟩
abbrev S1x3x8x128 : Shape := ⟨4, ![1, 3, 8, 128]⟩
abbrev S3x8x128 : Shape := ⟨3, ![3, 8, 128]⟩
abbrev S3x1x130 : Shape := ⟨3, ![3, 1, 130]⟩
abbrev S3x130 : Shape := ⟨2, ![3, 130]⟩
abbrev S1x128 : Shape := ⟨2, ![1, 128]⟩
abbrev S128 : Shape := ⟨1, ![128]⟩
abbrev S1x32x128 : Shape := ⟨3, ![1, 32, 128]⟩
abbrev S128x128 : Shape := ⟨2, ![128, 128]⟩
abbrev S129x128 : Shape := ⟨2, ![129, 128]⟩
abbrev S130x128 : Shape := ⟨2, ![130, 128]⟩
abbrev S130x1 : Shape := ⟨2, ![130, 1]⟩
abbrev S130x129 : Shape := ⟨2, ![130, 129]⟩
abbrev S130x130 : Shape := ⟨2, ![130, 130]⟩
abbrev S1x128x128 : Shape := ⟨3, ![1, 128, 128]⟩
abbrev S1x384x352 : Shape := ⟨3, ![1, 384, 352]⟩
abbrev S384x352 : Shape := ⟨2, ![384, 352]⟩
abbrev S384x32 : Shape := ⟨2, ![384, 32]⟩
abbrev S1x384x320 : Shape := ⟨3, ![1, 384, 320]⟩
abbrev S384x320 : Shape := ⟨2, ![384, 320]⟩
abbrev S384x64 : Shape := ⟨2, ![384, 64]⟩
abbrev S1x384x288 : Shape := ⟨3, ![1, 384, 288]⟩
abbrev S384x288 : Shape := ⟨2, ![384, 288]⟩
abbrev S384x96 : Shape := ⟨2, ![384, 96]⟩
abbrev S1x384 : Shape := ⟨2, ![1, 384]⟩
abbrev S385x384 : Shape := ⟨2, ![385, 384]⟩
abbrev S386x384 : Shape := ⟨2, ![386, 384]⟩
abbrev S386x1 : Shape := ⟨2, ![386, 1]⟩
abbrev S386x385 : Shape := ⟨2, ![386, 385]⟩
abbrev S386x386 : Shape := ⟨2, ![386, 386]⟩

abbrev nBuf : Space → Nat
  | .hbm => 37
  | .vmem => 9
  | .smem => 4
  | _ => 0

abbrev bufTy : (tb : Table) → Fin (tcTables nBuf tb) → BufTy
  | .hbm, ⟨0, _⟩ => ⟨S3x384x384, .f32⟩
  | .hbm, ⟨1, _⟩ => ⟨S32x3x3x3, .f32⟩
  | .hbm, ⟨2, _⟩ => ⟨S32, .f32⟩
  | .hbm, ⟨3, _⟩ => ⟨S2x32x3x3, .f32⟩
  | .hbm, ⟨4, _⟩ => ⟨S2, .f32⟩
  | .hbm, ⟨5, _⟩ => ⟨S3x384x384, .bf16⟩
  | .hbm, ⟨6, _⟩ => ⟨S32x3x3x3, .bf16⟩
  | .hbm, ⟨7, _⟩ => ⟨S32x3x3x3, .bf16⟩
  | .hbm, ⟨8, _⟩ => ⟨S32x3x3x3, .f32⟩
  | .hbm, ⟨9, _⟩ => ⟨S2x32x3x3, .bf16⟩
  | .hbm, ⟨10, _⟩ => ⟨S2x32x3x3, .bf16⟩
  | .hbm, ⟨11, _⟩ => ⟨S2x32x3x3, .f32⟩
  | .hbm, ⟨12, _⟩ => ⟨S_, .i32⟩
  | .hbm, ⟨13, _⟩ => ⟨S_, .bf16⟩
  | .hbm, ⟨14, _⟩ => ⟨S3x384x384, .bf16⟩
  | .hbm, ⟨15, _⟩ => ⟨S3x384x352, .bf16⟩
  | .hbm, ⟨16, _⟩ => ⟨S_, .i32⟩
  | .hbm, ⟨17, _⟩ => ⟨S_, .bf16⟩
  | .hbm, ⟨18, _⟩ => ⟨S3x384x384, .bf16⟩
  | .hbm, ⟨19, _⟩ => ⟨S3x384x320, .bf16⟩
  | .hbm, ⟨20, _⟩ => ⟨S_, .i32⟩
  | .hbm, ⟨21, _⟩ => ⟨S_, .bf16⟩
  | .hbm, ⟨22, _⟩ => ⟨S3x384x384, .bf16⟩
  | .hbm, ⟨23, _⟩ => ⟨S3x384x288, .bf16⟩
  | .hbm, ⟨24, _⟩ => ⟨S_, .i32⟩
  | .hbm, ⟨25, _⟩ => ⟨S_, .bf16⟩
  | .hbm, ⟨26, _⟩ => ⟨S3x384x384, .bf16⟩
  | .hbm, ⟨27, _⟩ => ⟨S1x3x384x384, .bf16⟩
  | .hbm, ⟨28, _⟩ => ⟨S1x3x384x384, .bf16⟩
  | .hbm, ⟨29, _⟩ => ⟨S1x3x384x384, .bf16⟩
  | .hbm, ⟨30, _⟩ => ⟨S1x3x384x384, .bf16⟩
  | .hbm, ⟨31, _⟩ => ⟨S4x3x384x384, .bf16⟩
  | .hbm, ⟨32, _⟩ => ⟨S32x3x3x3, .f32⟩
  | .hbm, ⟨33, _⟩ => ⟨S32x27, .f32⟩
  | .hbm, ⟨34, _⟩ => ⟨S32x1, .f32⟩
  | .hbm, ⟨35, _⟩ => ⟨S1x384x384, .f32⟩
  | .hbm, ⟨36, _⟩ => ⟨S384x384, .f32⟩
  | .local _ .vmem, ⟨0, _⟩ => ⟨S4x3x384x384, .bf16⟩
  | .local _ .vmem, ⟨1, _⟩ => ⟨S32x27, .f32⟩
  | .local _ .vmem, ⟨2, _⟩ => ⟨S32x1, .f32⟩
  | .local _ .vmem, ⟨3, _⟩ => ⟨S1x384x384, .f32⟩
  | .local _ .vmem, ⟨4, _⟩ => ⟨S384x384, .f32⟩
  | .local _ .vmem, ⟨5, _⟩ => ⟨S4x384x384, .f32⟩
  | .local _ .vmem, ⟨6, _⟩ => ⟨S32x384x128, .bf16⟩
  | .local _ .vmem, ⟨7, _⟩ => ⟨S32x128, .bf16⟩
  | .local _ .vmem, ⟨8, _⟩ => ⟨S32x128, .bf16⟩
  | .local _ .smem, ⟨0, _⟩ => ⟨S32x3x3x3, .f32⟩
  | .local _ .smem, ⟨1, _⟩ => ⟨S32, .f32⟩
  | .local _ .smem, ⟨2, _⟩ => ⟨S2x32x3x3, .f32⟩
  | .local _ .smem, ⟨3, _⟩ => ⟨S2, .f32⟩
  | _, _ => ⟨S3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev cc0_stg0_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![9, 9], ![false, false]⟩

def k0_cond2 (i : grid0.Coords) : BitVec 1 :=
  let arg1 : BitVec 32 := BitVec.ofNat 32 (i 1).val
  let c0_i32_8 : BitVec 32 := 0#32
  let v26 : BitVec 1 := Scalar.cmpi .eq arg1 c0_i32_8
  let v27 : BitVec 32 := Scalar.extui v26
  let c0_i32_9 : BitVec 32 := 0#32
  let v28 : BitVec 1 := Scalar.cmpi .ne v27 c0_i32_9
  v28

def k0_off1 (i : grid0.Coords) : Fin 4 → Nat :=
  let arg0 : BitVec 32 := BitVec.ofNat 32 (i 0).val
  let c4_i32_7 : BitVec 32 := 4#32
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c4_i32 : BitVec 32 := 4#32
  let c0_i32_4 : BitVec 32 := 0#32
  let v11 : BitVec 1 := Scalar.cmpi .sgt c4_i32 c0_i32_4
  let v12 : BitVec 32 := Scalar.extui v11
  let c0_i32_5 : BitVec 32 := 0#32
  let v13 : BitVec 1 := Scalar.cmpi .slt c4_i32 c0_i32_5
  let v14 : BitVec 32 := Scalar.extui v13
  let v15 : BitVec 32 := Scalar.subi v12 v14
  let v16 : BitVec 1 := Scalar.cmpi .ne v10 v15
  let v17 : BitVec 32 := Scalar.remsi arg0 c4_i32
  let c0_i32_6 : BitVec 32 := 0#32
  let v18 : BitVec 1 := Scalar.cmpi .ne v17 c0_i32_6
  let v19 : BitVec 1 := Scalar.andi v16 v18
  let v5 : BitVec 32 := Scalar.divsi arg0 c4_i32
  let c1_i32 : BitVec 32 := 1#32
  let v20 : BitVec 32 := Scalar.subi v5 c1_i32
  let v21 : BitVec 32 := Scalar.select v19 v20 v5
  let v22 : BitVec 32 := Scalar.muli c4_i32_7 v21
  let v23 : BitVec 32 := Scalar.subi arg0 v22
  let v6006 : Index := Scalar.indexCast v23
  let c0_2930 : Index := 0#32
  let c0_2931 : Index := 0#32
  let c128_i32 : BitVec 32 := 128#32
  let v25 : BitVec 32 := Scalar.muli v21 c128_i32
  let v6007 : Index := Scalar.indexCast v25
  ![v6006.toNat, 0, 0, v6007.toNat]
@[reducible] def k0_t1_loop : Scf.Loop 32 :=
  let c0_i32_2933 : BitVec 32 := 0#32
  let c32_i32_2934 : BitVec 32 := 32#32
  let v6102 : BitVec 32 := Scalar.addi c0_i32_2933 c32_i32_2934
  let c1_i32_2935 : BitVec 32 := 1#32
  ⟨c0_i32_2933, v6102, c1_i32_2935⟩
def k0_off2 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6103 : Index := Scalar.indexCast arg15
  let c0_2937 : Index := 0#32
  let c0_2938 : Index := 0#32
  let c0_2939 : Index := 0#32
  ![v6103.toNat, 0, 0, 0]
def k0_off3 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6109 : Index := Scalar.indexCast arg15
  let c1_2940 : Index := 1#32
  let c0_2941 : Index := 0#32
  let c0_2942 : Index := 0#32
  ![v6109.toNat, 1, 0, 0]
def k0_off4 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6115 : Index := Scalar.indexCast arg15
  let c2_2943 : Index := 2#32
  let c0_2944 : Index := 0#32
  let c0_2945 : Index := 0#32
  ![v6115.toNat, 2, 0, 0]
def k0_off5 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6121 : Index := Scalar.indexCast arg15
  let c0_2946 : Index := 0#32
  let c0_2947 : Index := 0#32
  let c1_2948 : Index := 1#32
  ![v6121.toNat, 0, 0, 1]
def k0_off6 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6127 : Index := Scalar.indexCast arg15
  let c1_2949 : Index := 1#32
  let c0_2950 : Index := 0#32
  let c1_2951 : Index := 1#32
  ![v6127.toNat, 1, 0, 1]
def k0_off7 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6133 : Index := Scalar.indexCast arg15
  let c2_2952 : Index := 2#32
  let c0_2953 : Index := 0#32
  let c1_2954 : Index := 1#32
  ![v6133.toNat, 2, 0, 1]
def k0_off8 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6139 : Index := Scalar.indexCast arg15
  let c0_2955 : Index := 0#32
  let c0_2956 : Index := 0#32
  let c2_2957 : Index := 2#32
  ![v6139.toNat, 0, 0, 2]
def k0_off9 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6145 : Index := Scalar.indexCast arg15
  let c1_2958 : Index := 1#32
  let c0_2959 : Index := 0#32
  let c2_2960 : Index := 2#32
  ![v6145.toNat, 1, 0, 2]
def k0_off10 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6151 : Index := Scalar.indexCast arg15
  let c2_2961 : Index := 2#32
  let c0_2962 : Index := 0#32
  let c2_2963 : Index := 2#32
  ![v6151.toNat, 2, 0, 2]
def k0_off11 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6157 : Index := Scalar.indexCast arg15
  let c0_2964 : Index := 0#32
  let c1_2965 : Index := 1#32
  let c0_2966 : Index := 0#32
  ![v6157.toNat, 0, 1, 0]
def k0_off12 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6163 : Index := Scalar.indexCast arg15
  let c1_2967 : Index := 1#32
  let c1_2968 : Index := 1#32
  let c0_2969 : Index := 0#32
  ![v6163.toNat, 1, 1, 0]
def k0_off13 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6169 : Index := Scalar.indexCast arg15
  let c2_2970 : Index := 2#32
  let c1_2971 : Index := 1#32
  let c0_2972 : Index := 0#32
  ![v6169.toNat, 2, 1, 0]
def k0_off14 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6175 : Index := Scalar.indexCast arg15
  let c0_2973 : Index := 0#32
  let c1_2974 : Index := 1#32
  let c1_2975 : Index := 1#32
  ![v6175.toNat, 0, 1, 1]
def k0_off15 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6181 : Index := Scalar.indexCast arg15
  let c1_2976 : Index := 1#32
  let c1_2977 : Index := 1#32
  let c1_2978 : Index := 1#32
  ![v6181.toNat, 1, 1, 1]
def k0_off16 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6187 : Index := Scalar.indexCast arg15
  let c2_2979 : Index := 2#32
  let c1_2980 : Index := 1#32
  let c1_2981 : Index := 1#32
  ![v6187.toNat, 2, 1, 1]
def k0_off17 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6193 : Index := Scalar.indexCast arg15
  let c0_2982 : Index := 0#32
  let c1_2983 : Index := 1#32
  let c2_2984 : Index := 2#32
  ![v6193.toNat, 0, 1, 2]
def k0_off18 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6199 : Index := Scalar.indexCast arg15
  let c1_2985 : Index := 1#32
  let c1_2986 : Index := 1#32
  let c2_2987 : Index := 2#32
  ![v6199.toNat, 1, 1, 2]
def k0_off19 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6205 : Index := Scalar.indexCast arg15
  let c2_2988 : Index := 2#32
  let c1_2989 : Index := 1#32
  let c2_2990 : Index := 2#32
  ![v6205.toNat, 2, 1, 2]
def k0_off20 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6211 : Index := Scalar.indexCast arg15
  let c0_2991 : Index := 0#32
  let c2_2992 : Index := 2#32
  let c0_2993 : Index := 0#32
  ![v6211.toNat, 0, 2, 0]
def k0_off21 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6217 : Index := Scalar.indexCast arg15
  let c1_2994 : Index := 1#32
  let c2_2995 : Index := 2#32
  let c0_2996 : Index := 0#32
  ![v6217.toNat, 1, 2, 0]
def k0_off22 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6223 : Index := Scalar.indexCast arg15
  let c2_2997 : Index := 2#32
  let c2_2998 : Index := 2#32
  let c0_2999 : Index := 0#32
  ![v6223.toNat, 2, 2, 0]
def k0_off23 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6229 : Index := Scalar.indexCast arg15
  let c0_3000 : Index := 0#32
  let c2_3001 : Index := 2#32
  let c1_3002 : Index := 1#32
  ![v6229.toNat, 0, 2, 1]
def k0_off24 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6235 : Index := Scalar.indexCast arg15
  let c1_3003 : Index := 1#32
  let c2_3004 : Index := 2#32
  let c1_3005 : Index := 1#32
  ![v6235.toNat, 1, 2, 1]
def k0_off25 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6241 : Index := Scalar.indexCast arg15
  let c2_3006 : Index := 2#32
  let c2_3007 : Index := 2#32
  let c1_3008 : Index := 1#32
  ![v6241.toNat, 2, 2, 1]
def k0_off26 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6247 : Index := Scalar.indexCast arg15
  let c0_3009 : Index := 0#32
  let c2_3010 : Index := 2#32
  let c2_3011 : Index := 2#32
  ![v6247.toNat, 0, 2, 2]
def k0_off27 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6253 : Index := Scalar.indexCast arg15
  let c1_3012 : Index := 1#32
  let c2_3013 : Index := 2#32
  let c2_3014 : Index := 2#32
  ![v6253.toNat, 1, 2, 2]
def k0_off28 (k0_t1 : Fin k0_t1_loop.trips) : Fin 4 → Nat :=
  let c0_i32_2933 : BitVec 32 := 0#32
  let c1_i32_2935 : BitVec 32 := 1#32
  let arg15 : BitVec 32 := Scf.iv c0_i32_2933 c1_i32_2935 k0_t1
  let v6259 : Index := Scalar.indexCast arg15
  let c2_3015 : Index := 2#32
  let c2_3016 : Index := 2#32
  let c2_3017 : Index := 2#32
  ![v6259.toNat, 2, 2, 2]
def k0_off29 (k0_t1 : Fin k0_t1_loop.trips) : Fin 1 → Nat :=
  let c0_i32_2933 : BitVec 32 := 0#32
  let c1_i32_2935 : BitVec 32 := 1#32
  let arg15 : BitVec 32 := Scf.iv c0_i32_2933 c1_i32_2935 k0_t1
  let v6291 : Index := Scalar.indexCast arg15
  ![v6291.toNat]
def k0_off30 (k0_t1 : Fin k0_t1_loop.trips) : Fin 3 → Nat :=
  let c0_i32_2933 : BitVec 32 := 0#32
  let c1_i32_2935 : BitVec 32 := 1#32
  let arg15 : BitVec 32 := Scf.iv c0_i32_2933 c1_i32_2935 k0_t1
  let v6298 : Index := Scalar.indexCast arg15
  let c0_3019 : Index := 0#32
  let c0_3020 : Index := 0#32
  ![v6298.toNat, 0, 0]
def k0_off31 (i : grid0.Coords) : Fin 4 → Nat :=
  let arg0 : BitVec 32 := BitVec.ofNat 32 (i 0).val
  let c4_i32_7 : BitVec 32 := 4#32
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c4_i32 : BitVec 32 := 4#32
  let c0_i32_4 : BitVec 32 := 0#32
  let v11 : BitVec 1 := Scalar.cmpi .sgt c4_i32 c0_i32_4
  let v12 : BitVec 32 := Scalar.extui v11
  let c0_i32_5 : BitVec 32 := 0#32
  let v13 : BitVec 1 := Scalar.cmpi .slt c4_i32 c0_i32_5
  let v14 : BitVec 32 := Scalar.extui v13
  let v15 : BitVec 32 := Scalar.subi v12 v14
  let v16 : BitVec 1 := Scalar.cmpi .ne v10 v15
  let v17 : BitVec 32 := Scalar.remsi arg0 c4_i32
  let c0_i32_6 : BitVec 32 := 0#32
  let v18 : BitVec 1 := Scalar.cmpi .ne v17 c0_i32_6
  let v19 : BitVec 1 := Scalar.andi v16 v18
  let v5 : BitVec 32 := Scalar.divsi arg0 c4_i32
  let c1_i32 : BitVec 32 := 1#32
  let v20 : BitVec 32 := Scalar.subi v5 c1_i32
  let v21 : BitVec 32 := Scalar.select v19 v20 v5
  let v22 : BitVec 32 := Scalar.muli c4_i32_7 v21
  let v23 : BitVec 32 := Scalar.subi arg0 v22
  let v29 : Index := Scalar.indexCast v23
  let c0 : Index := 0#32
  let arg1 : BitVec 32 := BitVec.ofNat 32 (i 1).val
  let c32_i32 : BitVec 32 := 32#32
  let v24 : BitVec 32 := Scalar.muli arg1 c32_i32
  let v30 : Index := Scalar.indexCast v24
  let c128_i32 : BitVec 32 := 128#32
  let v25 : BitVec 32 := Scalar.muli v21 c128_i32
  let v31 : Index := Scalar.indexCast v25
  ![v29.toNat, 0, v30.toNat, v31.toNat]
def k0_off32 (i : grid0.Coords) : Fin 4 → Nat :=
  let arg0 : BitVec 32 := BitVec.ofNat 32 (i 0).val
  let c4_i32_7 : BitVec 32 := 4#32
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c4_i32 : BitVec 32 := 4#32
  let c0_i32_4 : BitVec 32 := 0#32
  let v11 : BitVec 1 := Scalar.cmpi .sgt c4_i32 c0_i32_4
  let v12 : BitVec 32 := Scalar.extui v11
  let c0_i32_5 : BitVec 32 := 0#32
  let v13 : BitVec 1 := Scalar.cmpi .slt c4_i32 c0_i32_5
  let v14 : BitVec 32 := Scalar.extui v13
  let v15 : BitVec 32 := Scalar.subi v12 v14
  let v16 : BitVec 1 := Scalar.cmpi .ne v10 v15
  let v17 : BitVec 32 := Scalar.remsi arg0 c4_i32
  let c0_i32_6 : BitVec 32 := 0#32
  let v18 : BitVec 1 := Scalar.cmpi .ne v17 c0_i32_6
  let v19 : BitVec 1 := Scalar.andi v16 v18
  let v5 : BitVec 32 := Scalar.divsi arg0 c4_i32
  let c1_i32 : BitVec 32 := 1#32
  let v20 : BitVec 32 := Scalar.subi v5 c1_i32
  let v21 : BitVec 32 := Scalar.select v19 v20 v5
  let v22 : BitVec 32 := Scalar.muli c4_i32_7 v21
  let v23 : BitVec 32 := Scalar.subi arg0 v22
  let v41 : Index := Scalar.indexCast v23
  let c0_11 : Index := 0#32
  let arg1 : BitVec 32 := BitVec.ofNat 32 (i 1).val
  let c32_i32 : BitVec 32 := 32#32
  let v24 : BitVec 32 := Scalar.muli arg1 c32_i32
  let c120_i32 : BitVec 32 := 120#32
  let v40 : BitVec 32 := Scalar.addi v24 c120_i32
  let v42 : Index := Scalar.indexCast v40
  let c128_i32 : BitVec 32 := 128#32
  let v25 : BitVec 32 := Scalar.muli v21 c128_i32
  let v43 : Index := Scalar.indexCast v25
  ![v41.toNat, 0, v42.toNat, v43.toNat]
def k0_off33 (i : grid0.Coords) (c0_i32_2379 : BitVec 32) : Fin 3 → Nat :=
  let c0_2380 : Index := 0#32
  let arg1 : BitVec 32 := BitVec.ofNat 32 (i 1).val
  let c32_i32 : BitVec 32 := 32#32
  let v24 : BitVec 32 := Scalar.muli arg1 c32_i32
  let v1306 : BitVec 32 := Scalar.addi v24 c0_i32_2379
  let v1307 : Index := Scalar.indexCast v1306
  let c0_2381 : Index := 0#32
  ![0, v1307.toNat, 0]
def k0_off34 (i : grid0.Coords) (c0_i32_2384 : BitVec 32) : Fin 3 → Nat :=
  let c1_2385 : Index := 1#32
  let arg1 : BitVec 32 := BitVec.ofNat 32 (i 1).val
  let c32_i32 : BitVec 32 := 32#32
  let v24 : BitVec 32 := Scalar.muli arg1 c32_i32
  let v1345 : BitVec 32 := Scalar.addi v24 c0_i32_2384
  let v1346 : Index := Scalar.indexCast v1345
  let c0_2386 : Index := 0#32
  ![1, v1346.toNat, 0]
def k0_off35 (i : grid0.Coords) (c0_i32_2389 : BitVec 32) : Fin 3 → Nat :=
  let c2_2390 : Index := 2#32
  let arg1 : BitVec 32 := BitVec.ofNat 32 (i 1).val
  let c32_i32 : BitVec 32 := 32#32
  let v24 : BitVec 32 := Scalar.muli arg1 c32_i32
  let v1384 : BitVec 32 := Scalar.addi v24 c0_i32_2389
  let v1385 : Index := Scalar.indexCast v1384
  let c0_2391 : Index := 0#32
  ![2, v1385.toNat, 0]
def k0_off36 (i : grid0.Coords) (c0_i32_2394 : BitVec 32) : Fin 3 → Nat :=
  let c3_2395 : Index := 3#32
  let arg1 : BitVec 32 := BitVec.ofNat 32 (i 1).val
  let c32_i32 : BitVec 32 := 32#32
  let v24 : BitVec 32 := Scalar.muli arg1 c32_i32
  let v1423 : BitVec 32 := Scalar.addi v24 c0_i32_2394
  let v1424 : Index := Scalar.indexCast v1423
  let c0_2396 : Index := 0#32
  ![3, v1424.toNat, 0]
def k0_off37 (i : grid0.Coords) (c0_i32_2399 : BitVec 32) : Fin 3 → Nat :=
  let c4_2400 : Index := 4#32
  let arg1 : BitVec 32 := BitVec.ofNat 32 (i 1).val
  let c32_i32 : BitVec 32 := 32#32
  let v24 : BitVec 32 := Scalar.muli arg1 c32_i32
  let v1462 : BitVec 32 := Scalar.addi v24 c0_i32_2399
  let v1463 : Index := Scalar.indexCast v1462
  let c0_2401 : Index := 0#32
  ![4, v1463.toNat, 0]
def k0_off38 (i : grid0.Coords) (c0_i32_2404 : BitVec 32) : Fin 3 → Nat :=
  let c5_2405 : Index := 5#32
  let arg1 : BitVec 32 := BitVec.ofNat 32 (i 1).val
  let c32_i32 : BitVec 32 := 32#32
  let v24 : BitVec 32 := Scalar.muli arg1 c32_i32
  let v1501 : BitVec 32 := Scalar.addi v24 c0_i32_2404
  let v1502 : Index := Scalar.indexCast v1501
  let c0_2406 : Index := 0#32
  ![5, v1502.toNat, 0]
def k0_off39 (i : grid0.Coords) (c0_i32_2409 : BitVec 32) : Fin 3 → Nat :=
  let c6_2410 : Index := 6#32
  let arg1 : BitVec 32 := BitVec.ofNat 32 (i 1).val
  let c32_i32 : BitVec 32 := 32#32
  let v24 : BitVec 32 := Scalar.muli arg1 c32_i32
  let v1540 : BitVec 32 := Scalar.addi v24 c0_i32_2409
  let v1541 : Index := Scalar.indexCast v1540
  let c0_2411 : Index := 0#32
  ![6, v1541.toNat, 0]
def k0_off40 (i : grid0.Coords) (c0_i32_2414 : BitVec 32) : Fin 3 → Nat :=
  let c7_2415 : Index := 7#32
  let arg1 : BitVec 32 := BitVec.ofNat 32 (i 1).val
  let c32_i32 : BitVec 32 := 32#32
  let v24 : BitVec 32 := Scalar.muli arg1 c32_i32
  let v1579 : BitVec 32 := Scalar.addi v24 c0_i32_2414
  let v1580 : Index := Scalar.indexCast v1579
  let c0_2416 : Index := 0#32
  ![7, v1580.toNat, 0]
def k0_off41 (i : grid0.Coords) (c0_i32_2419 : BitVec 32) : Fin 3 → Nat :=
  let c8_2420 : Index := 8#32
  let arg1 : BitVec 32 := BitVec.ofNat 32 (i 1).val
  let c32_i32 : BitVec 32 := 32#32
  let v24 : BitVec 32 := Scalar.muli arg1 c32_i32
  let v1618 : BitVec 32 := Scalar.addi v24 c0_i32_2419
  let v1619 : Index := Scalar.indexCast v1618
  let c0_2421 : Index := 0#32
  ![8, v1619.toNat, 0]
def k0_off42 (i : grid0.Coords) (c0_i32_2424 : BitVec 32) : Fin 3 → Nat :=
  let c9_2425 : Index := 9#32
  let arg1 : BitVec 32 := BitVec.ofNat 32 (i 1).val
  let c32_i32 : BitVec 32 := 32#32
  let v24 : BitVec 32 := Scalar.muli arg1 c32_i32
  let v1657 : BitVec 32 := Scalar.addi v24 c0_i32_2424
  let v1658 : Index := Scalar.indexCast v1657
  let c0_2426 : Index := 0#32
  ![9, v1658.toNat, 0]
def k0_off43 (i : grid0.Coords) (c0_i32_2429 : BitVec 32) : Fin 3 → Nat :=
  let c10_2430 : Index := 10#32
  let arg1 : BitVec 32 := BitVec.ofNat 32 (i 1).val
  let c32_i32 : BitVec 32 := 32#32
  let v24 : BitVec 32 := Scalar.muli arg1 c32_i32
  let v1696 : BitVec 32 := Scalar.addi v24 c0_i32_2429
  let v1697 : Index := Scalar.indexCast v1696
  let c0_2431 : Index := 0#32
  ![10, v1697.toNat, 0]
def k0_off44 (i : grid0.Coords) (c0_i32_2434 : BitVec 32) : Fin 3 → Nat :=
  let c11_2435 : Index := 11#32
  let arg1 : BitVec 32 := BitVec.ofNat 32 (i 1).val
  let c32_i32 : BitVec 32 := 32#32
  let v24 : BitVec 32 := Scalar.muli arg1 c32_i32
  let v1735 : BitVec 32 := Scalar.addi v24 c0_i32_2434
  let v1736 : Index := Scalar.indexCast v1735
  let c0_2436 : Index := 0#32
  ![11, v1736.toNat, 0]
def k0_off45 (i : grid0.Coords) (c0_i32_2439 : BitVec 32) : Fin 3 → Nat :=
  let c12_2440 : Index := 12#32
  let arg1 : BitVec 32 := BitVec.ofNat 32 (i 1).val
  let c32_i32 : BitVec 32 := 32#32
  let v24 : BitVec 32 := Scalar.muli arg1 c32_i32
  let v1774 : BitVec 32 := Scalar.addi v24 c0_i32_2439
  let v1775 : Index := Scalar.indexCast v1774
  let c0_2441 : Index := 0#32
  ![12, v1775.toNat, 0]
def k0_off46 (i : grid0.Coords) (c0_i32_2444 : BitVec 32) : Fin 3 → Nat :=
  let c13_2445 : Index := 13#32
  let arg1 : BitVec 32 := BitVec.ofNat 32 (i 1).val
  let c32_i32 : BitVec 32 := 32#32
  let v24 : BitVec 32 := Scalar.muli arg1 c32_i32
  let v1813 : BitVec 32 := Scalar.addi v24 c0_i32_2444
  let v1814 : Index := Scalar.indexCast v1813
  let c0_2446 : Index := 0#32
  ![13, v1814.toNat, 0]
def k0_off47 (i : grid0.Coords) (c0_i32_2449 : BitVec 32) : Fin 3 → Nat :=
  let c14_2450 : Index := 14#32
  let arg1 : BitVec 32 := BitVec.ofNat 32 (i 1).val
  let c32_i32 : BitVec 32 := 32#32
  let v24 : BitVec 32 := Scalar.muli arg1 c32_i32
  let v1852 : BitVec 32 := Scalar.addi v24 c0_i32_2449
  let v1853 : Index := Scalar.indexCast v1852
  let c0_2451 : Index := 0#32
  ![14, v1853.toNat, 0]
def k0_off48 (i : grid0.Coords) (c0_i32_2454 : BitVec 32) : Fin 3 → Nat :=
  let c15_2455 : Index := 15#32
  let arg1 : BitVec 32 := BitVec.ofNat 32 (i 1).val
  let c32_i32 : BitVec 32 := 32#32
  let v24 : BitVec 32 := Scalar.muli arg1 c32_i32
  let v1891 : BitVec 32 := Scalar.addi v24 c0_i32_2454
  let v1892 : Index := Scalar.indexCast v1891
  let c0_2456 : Index := 0#32
  ![15, v1892.toNat, 0]
def k0_off49 (i : grid0.Coords) (c0_i32_2459 : BitVec 32) : Fin 3 → Nat :=
  let c16_2460 : Index := 16#32
  let arg1 : BitVec 32 := BitVec.ofNat 32 (i 1).val
  let c32_i32 : BitVec 32 := 32#32
  let v24 : BitVec 32 := Scalar.muli arg1 c32_i32
  let v1930 : BitVec 32 := Scalar.addi v24 c0_i32_2459
  let v1931 : Index := Scalar.indexCast v1930
  let c0_2461 : Index := 0#32
  ![16, v1931.toNat, 0]
def k0_off50 (i : grid0.Coords) (c0_i32_2464 : BitVec 32) : Fin 3 → Nat :=
  let c17_2465 : Index := 17#32
  let arg1 : BitVec 32 := BitVec.ofNat 32 (i 1).val
  let c32_i32 : BitVec 32 := 32#32
  let v24 : BitVec 32 := Scalar.muli arg1 c32_i32
  let v1969 : BitVec 32 := Scalar.addi v24 c0_i32_2464
  let v1970 : Index := Scalar.indexCast v1969
  let c0_2466 : Index := 0#32
  ![17, v1970.toNat, 0]
def k0_off51 (i : grid0.Coords) (c0_i32_2469 : BitVec 32) : Fin 3 → Nat :=
  let c18_2470 : Index := 18#32
  let arg1 : BitVec 32 := BitVec.ofNat 32 (i 1).val
  let c32_i32 : BitVec 32 := 32#32
  let v24 : BitVec 32 := Scalar.muli arg1 c32_i32
  let v2008 : BitVec 32 := Scalar.addi v24 c0_i32_2469
  let v2009 : Index := Scalar.indexCast v2008
  let c0_2471 : Index := 0#32
  ![18, v2009.toNat, 0]
def k0_off52 (i : grid0.Coords) (c0_i32_2474 : BitVec 32) : Fin 3 → Nat :=
  let c19_2475 : Index := 19#32
  let arg1 : BitVec 32 := BitVec.ofNat 32 (i 1).val
  let c32_i32 : BitVec 32 := 32#32
  let v24 : BitVec 32 := Scalar.muli arg1 c32_i32
  let v2047 : BitVec 32 := Scalar.addi v24 c0_i32_2474
  let v2048 : Index := Scalar.indexCast v2047
  let c0_2476 : Index := 0#32
  ![19, v2048.toNat, 0]
def k0_off53 (i : grid0.Coords) (c0_i32_2479 : BitVec 32) : Fin 3 → Nat :=
  let c20_2480 : Index := 20#32
  let arg1 : BitVec 32 := BitVec.ofNat 32 (i 1).val
  let c32_i32 : BitVec 32 := 32#32
  let v24 : BitVec 32 := Scalar.muli arg1 c32_i32
  let v2086 : BitVec 32 := Scalar.addi v24 c0_i32_2479
  let v2087 : Index := Scalar.indexCast v2086
  let c0_2481 : Index := 0#32
  ![20, v2087.toNat, 0]
def k0_off54 (i : grid0.Coords) (c0_i32_2484 : BitVec 32) : Fin 3 → Nat :=
  let c21_2485 : Index := 21#32
  let arg1 : BitVec 32 := BitVec.ofNat 32 (i 1).val
  let c32_i32 : BitVec 32 := 32#32
  let v24 : BitVec 32 := Scalar.muli arg1 c32_i32
  let v2125 : BitVec 32 := Scalar.addi v24 c0_i32_2484
  let v2126 : Index := Scalar.indexCast v2125
  let c0_2486 : Index := 0#32
  ![21, v2126.toNat, 0]
def k0_off55 (i : grid0.Coords) (c0_i32_2489 : BitVec 32) : Fin 3 → Nat :=
  let c22_2490 : Index := 22#32
  let arg1 : BitVec 32 := BitVec.ofNat 32 (i 1).val
  let c32_i32 : BitVec 32 := 32#32
  let v24 : BitVec 32 := Scalar.muli arg1 c32_i32
  let v2164 : BitVec 32 := Scalar.addi v24 c0_i32_2489
  let v2165 : Index := Scalar.indexCast v2164
  let c0_2491 : Index := 0#32
  ![22, v2165.toNat, 0]
def k0_off56 (i : grid0.Coords) (c0_i32_2494 : BitVec 32) : Fin 3 → Nat :=
  let c23_2495 : Index := 23#32
  let arg1 : BitVec 32 := BitVec.ofNat 32 (i 1).val
  let c32_i32 : BitVec 32 := 32#32
  let v24 : BitVec 32 := Scalar.muli arg1 c32_i32
  let v2203 : BitVec 32 := Scalar.addi v24 c0_i32_2494
  let v2204 : Index := Scalar.indexCast v2203
  let c0_2496 : Index := 0#32
  ![23, v2204.toNat, 0]
def k0_off57 (i : grid0.Coords) (c0_i32_2499 : BitVec 32) : Fin 3 → Nat :=
  let c24_2500 : Index := 24#32
  let arg1 : BitVec 32 := BitVec.ofNat 32 (i 1).val
  let c32_i32 : BitVec 32 := 32#32
  let v24 : BitVec 32 := Scalar.muli arg1 c32_i32
  let v2242 : BitVec 32 := Scalar.addi v24 c0_i32_2499
  let v2243 : Index := Scalar.indexCast v2242
  let c0_2501 : Index := 0#32
  ![24, v2243.toNat, 0]
def k0_off58 (i : grid0.Coords) (c0_i32_2504 : BitVec 32) : Fin 3 → Nat :=
  let c25_2505 : Index := 25#32
  let arg1 : BitVec 32 := BitVec.ofNat 32 (i 1).val
  let c32_i32 : BitVec 32 := 32#32
  let v24 : BitVec 32 := Scalar.muli arg1 c32_i32
  let v2281 : BitVec 32 := Scalar.addi v24 c0_i32_2504
  let v2282 : Index := Scalar.indexCast v2281
  let c0_2506 : Index := 0#32
  ![25, v2282.toNat, 0]
def k0_off59 (i : grid0.Coords) (c0_i32_2509 : BitVec 32) : Fin 3 → Nat :=
  let c26_2510 : Index := 26#32
  let arg1 : BitVec 32 := BitVec.ofNat 32 (i 1).val
  let c32_i32 : BitVec 32 := 32#32
  let v24 : BitVec 32 := Scalar.muli arg1 c32_i32
  let v2320 : BitVec 32 := Scalar.addi v24 c0_i32_2509
  let v2321 : Index := Scalar.indexCast v2320
  let c0_2511 : Index := 0#32
  ![26, v2321.toNat, 0]
def k0_off60 (i : grid0.Coords) (c0_i32_2514 : BitVec 32) : Fin 3 → Nat :=
  let c27_2515 : Index := 27#32
  let arg1 : BitVec 32 := BitVec.ofNat 32 (i 1).val
  let c32_i32 : BitVec 32 := 32#32
  let v24 : BitVec 32 := Scalar.muli arg1 c32_i32
  let v2359 : BitVec 32 := Scalar.addi v24 c0_i32_2514
  let v2360 : Index := Scalar.indexCast v2359
  let c0_2516 : Index := 0#32
  ![27, v2360.toNat, 0]
def k0_off61 (i : grid0.Coords) (c0_i32_2519 : BitVec 32) : Fin 3 → Nat :=
  let c28_2520 : Index := 28#32
  let arg1 : BitVec 32 := BitVec.ofNat 32 (i 1).val
  let c32_i32 : BitVec 32 := 32#32
  let v24 : BitVec 32 := Scalar.muli arg1 c32_i32
  let v2398 : BitVec 32 := Scalar.addi v24 c0_i32_2519
  let v2399 : Index := Scalar.indexCast v2398
  let c0_2521 : Index := 0#32
  ![28, v2399.toNat, 0]
def k0_off62 (i : grid0.Coords) (c0_i32_2524 : BitVec 32) : Fin 3 → Nat :=
  let c29_2525 : Index := 29#32
  let arg1 : BitVec 32 := BitVec.ofNat 32 (i 1).val
  let c32_i32 : BitVec 32 := 32#32
  let v24 : BitVec 32 := Scalar.muli arg1 c32_i32
  let v2437 : BitVec 32 := Scalar.addi v24 c0_i32_2524
  let v2438 : Index := Scalar.indexCast v2437
  let c0_2526 : Index := 0#32
  ![29, v2438.toNat, 0]
def k0_off63 (i : grid0.Coords) (c0_i32_2529 : BitVec 32) : Fin 3 → Nat :=
  let c30_2530 : Index := 30#32
  let arg1 : BitVec 32 := BitVec.ofNat 32 (i 1).val
  let c32_i32 : BitVec 32 := 32#32
  let v24 : BitVec 32 := Scalar.muli arg1 c32_i32
  let v2476 : BitVec 32 := Scalar.addi v24 c0_i32_2529
  let v2477 : Index := Scalar.indexCast v2476
  let c0_2531 : Index := 0#32
  ![30, v2477.toNat, 0]
def k0_off64 (i : grid0.Coords) (c0_i32_2534 : BitVec 32) : Fin 3 → Nat :=
  let c31_2535 : Index := 31#32
  let arg1 : BitVec 32 := BitVec.ofNat 32 (i 1).val
  let c32_i32 : BitVec 32 := 32#32
  let v24 : BitVec 32 := Scalar.muli arg1 c32_i32
  let v2515 : BitVec 32 := Scalar.addi v24 c0_i32_2534
  let v2516 : Index := Scalar.indexCast v2515
  let c0_2536 : Index := 0#32
  ![31, v2516.toNat, 0]
def k0_off65 (i : grid0.Coords) : Fin 3 → Nat :=
  let arg0 : BitVec 32 := BitVec.ofNat 32 (i 0).val
  let c4_i32_7 : BitVec 32 := 4#32
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c4_i32 : BitVec 32 := 4#32
  let c0_i32_4 : BitVec 32 := 0#32
  let v11 : BitVec 1 := Scalar.cmpi .sgt c4_i32 c0_i32_4
  let v12 : BitVec 32 := Scalar.extui v11
  let c0_i32_5 : BitVec 32 := 0#32
  let v13 : BitVec 1 := Scalar.cmpi .slt c4_i32 c0_i32_5
  let v14 : BitVec 32 := Scalar.extui v13
  let v15 : BitVec 32 := Scalar.subi v12 v14
  let v16 : BitVec 1 := Scalar.cmpi .ne v10 v15
  let v17 : BitVec 32 := Scalar.remsi arg0 c4_i32
  let c0_i32_6 : BitVec 32 := 0#32
  let v18 : BitVec 1 := Scalar.cmpi .ne v17 c0_i32_6
  let v19 : BitVec 1 := Scalar.andi v16 v18
  let v5 : BitVec 32 := Scalar.divsi arg0 c4_i32
  let c1_i32 : BitVec 32 := 1#32
  let v20 : BitVec 32 := Scalar.subi v5 c1_i32
  let v21 : BitVec 32 := Scalar.select v19 v20 v5
  let v22 : BitVec 32 := Scalar.muli c4_i32_7 v21
  let v23 : BitVec 32 := Scalar.subi arg0 v22
  let v5989 : Index := Scalar.indexCast v23
  let arg1 : BitVec 32 := BitVec.ofNat 32 (i 1).val
  let c32_i32 : BitVec 32 := 32#32
  let v24 : BitVec 32 := Scalar.muli arg1 c32_i32
  let v5990 : Index := Scalar.indexCast v24
  let c128_i32 : BitVec 32 := 128#32
  let v25 : BitVec 32 := Scalar.muli v21 c128_i32
  let v5991 : Index := Scalar.indexCast v25
  ![v5989.toNat, v5990.toNat, v5991.toNat]
def k0_cond3 (i : grid0.Coords) : BitVec 1 :=
  let arg1 : BitVec 32 := BitVec.ofNat 32 (i 1).val
  let c8_i32_2927 : BitVec 32 := 8#32
  let v6001 : BitVec 1 := Scalar.cmpi .eq arg1 c8_i32_2927
  let arg0 : BitVec 32 := BitVec.ofNat 32 (i 0).val
  let c8_i32_2928 : BitVec 32 := 8#32
  let v6002 : BitVec 1 := Scalar.cmpi .eq arg0 c8_i32_2928
  let v6003 : BitVec 1 := Scalar.andi v6001 v6002
  let v6004 : BitVec 32 := Scalar.extui v6003
  let c0_i32_2929 : BitVec 32 := 0#32
  let v6005 : BitVec 1 := Scalar.cmpi .ne v6004 c0_i32_2929
  v6005

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x3x384x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32x3x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x32x3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x27 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S3x384x384 : Shape := ⟨3, ![3, 384, 384]⟩
abbrev S32x3x3x3 : Shape := ⟨4, ![32, 3, 3, 3]⟩
abbrev S32 : Shape := ⟨1, ![32]⟩
abbrev S2x32x3x3 : Shape := ⟨4, ![2, 32, 3, 3]⟩
abbrev S2 : Shape := ⟨1, ![2]⟩
abbrev S_ : Shape := ⟨0, ![]⟩
abbrev S2x384x384 : Shape := ⟨3, ![2, 384, 384]⟩
abbrev S3x128x128 : Shape := ⟨3, ![3, 128, 128]⟩
abbrev S3x130x130 : Shape := ⟨3, ![3, 130, 130]⟩
abbrev S32x128x128 : Shape := ⟨3, ![32, 128, 128]⟩
abbrev S32x3x1x1 : Shape := ⟨4, ![32, 3, 1, 1]⟩
abbrev S32x3 : Shape := ⟨2, ![32, 3]⟩
abbrev S32x1x1 : Shape := ⟨3, ![32, 1, 1]⟩
abbrev S32x130x130 : Shape := ⟨3, ![32, 130, 130]⟩
abbrev S2x128x128 : Shape := ⟨3, ![2, 128, 128]⟩
abbrev S2x32x1x1 : Shape := ⟨4, ![2, 32, 1, 1]⟩
abbrev S2x32 : Shape := ⟨2, ![2, 32]⟩
abbrev S2x1x1 : Shape := ⟨3, ![2, 1, 1]⟩
abbrev S1x384x384 : Shape := ⟨3, ![1, 384, 384]⟩
abbrev S384x384 : Shape := ⟨2, ![384, 384]⟩
abbrev S386x386 : Shape := ⟨2, ![386, 386]⟩

abbrev nBuf : Space → Nat
  | .hbm => 213
  | .vmem => 0
  | .smem => 0
  | _ => 0

abbrev hbmTy0_0 (i : Nat) : BufTy := match i % 128 with
  | 0 => ⟨S3x384x384, .f32⟩
  | 1 => ⟨S32x3x3x3, .f32⟩
  | 2 => ⟨S32, .f32⟩
  | 3 => ⟨S2x32x3x3, .f32⟩
  | 4 => ⟨S2, .f32⟩
  | 5 => ⟨S_, .f32⟩
  | 6 => ⟨S2x384x384, .f32⟩
  | 7 => ⟨S_, .i32⟩
  | 8 => ⟨S_, .i32⟩
  | 9 => ⟨S3x384x384, .f32⟩
  | 10 => ⟨S32x3x3x3, .f32⟩
  | 11 => ⟨S32, .f32⟩
  | 12 => ⟨S2x32x3x3, .f32⟩
  | 13 => ⟨S2, .f32⟩
  | 14 => ⟨S_, .i32⟩
  | 15 => ⟨S_, .i32⟩
  | 16 => ⟨S2x384x384, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S3x128x128, .f32⟩
  | 43 => ⟨S_, .f32⟩
  | 44 => ⟨S3x130x130, .f32⟩
  | 45 => ⟨S_, .f32⟩
  | 46 => ⟨S32x128x128, .f32⟩
  | 47 => ⟨S32x3x1x1, .f32⟩
  | 48 => ⟨S32x3, .f32⟩
  | 49 => ⟨S3x128x128, .f32⟩
  | 50 => ⟨S32x128x128, .f32⟩
  | 51 => ⟨S32x128x128, .f32⟩
  | 52 => ⟨S32x3x1x1, .f32⟩
  | 53 => ⟨S32x3, .f32⟩
  | 54 => ⟨S3x128x128, .f32⟩
  | 55 => ⟨S32x128x128, .f32⟩
  | 56 => ⟨S32x128x128, .f32⟩
  | 57 => ⟨S32x3x1x1, .f32⟩
  | 58 => ⟨S32x3, .f32⟩
  | 59 => ⟨S3x128x128, .f32⟩
  | 60 => ⟨S32x128x128, .f32⟩
  | 61 => ⟨S32x128x128, .f32⟩
  | 62 => ⟨S32x3x1x1, .f32⟩
  | 63 => ⟨S32x3, .f32⟩
  | 64 => ⟨S3x128x128, .f32⟩
  | 65 => ⟨S32x128x128, .f32⟩
  | 66 => ⟨S32x128x128, .f32⟩
  | 67 => ⟨S32x3x1x1, .f32⟩
  | 68 => ⟨S32x3, .f32⟩
  | 69 => ⟨S3x128x128, .f32⟩
  | 70 => ⟨S32x128x128, .f32⟩
  | 71 => ⟨S32x128x128, .f32⟩
  | 72 => ⟨S32x3x1x1, .f32⟩
  | 73 => ⟨S32x3, .f32⟩
  | 74 => ⟨S3x128x128, .f32⟩
  | 75 => ⟨S32x128x128, .f32⟩
  | 76 => ⟨S32x128x128, .f32⟩
  | 77 => ⟨S32x3x1x1, .f32⟩
  | 78 => ⟨S32x3, .f32⟩
  | 79 => ⟨S3x128x128, .f32⟩
  | 80 => ⟨S32x128x128, .f32⟩
  | 81 => ⟨S32x128x128, .f32⟩
  | 82 => ⟨S32x3x1x1, .f32⟩
  | 83 => ⟨S32x3, .f32⟩
  | 84 => ⟨S3x128x128, .f32⟩
  | 85 => ⟨S32x128x128, .f32⟩
  | 86 => ⟨S32x128x128, .f32⟩
  | 87 => ⟨S32x3x1x1, .f32⟩
  | 88 => ⟨S32x3, .f32⟩
  | 89 => ⟨S3x128x128, .f32⟩
  | 90 => ⟨S32x128x128, .f32⟩
  | 91 => ⟨S32x128x128, .f32⟩
  | 92 => ⟨S32x1x1, .f32⟩
  | 93 => ⟨S32x128x128, .f32⟩
  | 94 => ⟨S32x128x128, .f32⟩
  | 95 => ⟨S_, .f32⟩
  | 96 => ⟨S32x128x128, .f32⟩
  | 97 => ⟨S32x128x128, .f32⟩
  | 98 => ⟨S_, .f32⟩
  | 99 => ⟨S32x130x130, .f32⟩
  | 100 => ⟨S_, .f32⟩
  | 101 => ⟨S2x128x128, .f32⟩
  | 102 => ⟨S2x32x1x1, .f32⟩
  | 103 => ⟨S2x32, .f32⟩
  | 104 => ⟨S32x128x128, .f32⟩
  | 105 => ⟨S2x128x128, .f32⟩
  | 106 => ⟨S2x128x128, .f32⟩
  | 107 => ⟨S2x32x1x1, .f32⟩
  | 108 => ⟨S2x32, .f32⟩
  | 109 => ⟨S32x128x128, .f32⟩
  | 110 => ⟨S2x128x128, .f32⟩
  | 111 => ⟨S2x128x128, .f32⟩
  | 112 => ⟨S2x32x1x1, .f32⟩
  | 113 => ⟨S2x32, .f32⟩
  | 114 => ⟨S32x128x128, .f32⟩
  | 115 => ⟨S2x128x128, .f32⟩
  | 116 => ⟨S2x128x128, .f32⟩
  | 117 => ⟨S2x32x1x1, .f32⟩
  | 118 => ⟨S2x32, .f32⟩
  | 119 => ⟨S32x128x128, .f32⟩
  | 120 => ⟨S2x128x128, .f32⟩
  | 121 => ⟨S2x128x128, .f32⟩
  | 122 => ⟨S2x32x1x1, .f32⟩
  | 123 => ⟨S2x32, .f32⟩
  | 124 => ⟨S32x128x128, .f32⟩
  | 125 => ⟨S2x128x128, .f32⟩
  | 126 => ⟨S2x128x128, .f32⟩
  | 127 => ⟨S2x32x1x1, .f32⟩
  | _ => ⟨S3x384x384, .f32⟩

abbrev hbmTy0_1 (i : Nat) : BufTy := match i % 128 with
  | 0 => ⟨S2x32, .f32⟩
  | 1 => ⟨S32x128x128, .f32⟩
  | 2 => ⟨S2x128x128, .f32⟩
  | 3 => ⟨S2x128x128, .f32⟩
  | 4 => ⟨S2x32x1x1, .f32⟩
  | 5 => ⟨S2x32, .f32⟩
  | 6 => ⟨S32x128x128, .f32⟩
  | 7 => ⟨S2x128x128, .f32⟩
  | 8 => ⟨S2x128x128, .f32⟩
  | 9 => ⟨S2x32x1x1, .f32⟩
  | 10 => ⟨S2x32, .f32⟩
  | 11 => ⟨S32x128x128, .f32⟩
  | 12 => ⟨S2x128x128, .f32⟩
  | 13 => ⟨S2x128x128, .f32⟩
  | 14 => ⟨S2x32x1x1, .f32⟩
  | 15 => ⟨S2x32, .f32⟩
  | 16 => ⟨S32x128x128, .f32⟩
  | 17 => ⟨S2x128x128, .f32⟩
  | 18 => ⟨S2x128x128, .f32⟩
  | 19 => ⟨S2x1x1, .f32⟩
  | 20 => ⟨S2x128x128, .f32⟩
  | 21 => ⟨S2x128x128, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S2x128x128, .f32⟩
  | 36 => ⟨S2x128x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S2x384x384, .f32⟩
  | 51 => ⟨S_, .i32⟩
  | 52 => ⟨S_, .i32⟩
  | 53 => ⟨S1x384x384, .f32⟩
  | 54 => ⟨S384x384, .f32⟩
  | 55 => ⟨S1x384x384, .f32⟩
  | 56 => ⟨S384x384, .f32⟩
  | 57 => ⟨S384x384, .f32⟩
  | 58 => ⟨S_, .f32⟩
  | 59 => ⟨S384x384, .f32⟩
  | 60 => ⟨S384x384, .f32⟩
  | 61 => ⟨S_, .f32⟩
  | 62 => ⟨S386x386, .f32⟩
  | 63 => ⟨S_, .f32⟩
  | 64 => ⟨S384x384, .f32⟩
  | 65 => ⟨S384x384, .f32⟩
  | 66 => ⟨S384x384, .f32⟩
  | 67 => ⟨S384x384, .f32⟩
  | 68 => ⟨S384x384, .f32⟩
  | 69 => ⟨S384x384, .f32⟩
  | 70 => ⟨S384x384, .f32⟩
  | 71 => ⟨S384x384, .f32⟩
  | 72 => ⟨S384x384, .f32⟩
  | 73 => ⟨S384x384, .f32⟩
  | 74 => ⟨S384x384, .f32⟩
  | 75 => ⟨S384x384, .f32⟩
  | 76 => ⟨S384x384, .f32⟩
  | 77 => ⟨S384x384, .f32⟩
  | 78 => ⟨S384x384, .f32⟩
  | 79 => ⟨S384x384, .f32⟩
  | 80 => ⟨S384x384, .f32⟩
  | 81 => ⟨S384x384, .i1⟩
  | 82 => ⟨S384x384, .f32⟩
  | 83 => ⟨S384x384, .f32⟩
  | 84 => ⟨S1x384x384, .f32⟩
  | _ => ⟨S3x384x384, .f32⟩

abbrev hbmTy (i : Nat) : BufTy := match i / 128 with
  | 0 => hbmTy0_0 i
  | 1 => hbmTy0_1 i
  | _ => ⟨S3x384x384, .f32⟩

abbrev bufTy : (tb : Table) → Fin (tcTables nBuf tb) → BufTy
  | .hbm, ⟨i, _⟩ => hbmTy i
  | _, _ => ⟨S3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_while0c_c_11 : Ref sig .tc := ⟨.hbm, 17, rfl⟩
abbrev main_while0c_v31 : Ref sig .tc := ⟨.hbm, 18, rfl⟩
abbrev main_while0b_c_11 : Ref sig .tc := ⟨.hbm, 19, rfl⟩
abbrev main_while0b_v31 : Ref sig .tc := ⟨.hbm, 20, rfl⟩
abbrev main_while0b_c_12 : Ref sig .tc := ⟨.hbm, 21, rfl⟩
abbrev main_while0b_v32 : Ref sig .tc := ⟨.hbm, 22, rfl⟩
abbrev main_while0b_c_13 : Ref sig .tc := ⟨.hbm, 23, rfl⟩
abbrev main_while0b_v33 : Ref sig .tc := ⟨.hbm, 24, rfl⟩
abbrev main_while0b_c_14 : Ref sig .tc := ⟨.hbm, 25, rfl⟩
abbrev main_while0b_v34 : Ref sig .tc := ⟨.hbm, 26, rfl⟩
abbrev main_while0b_c_15 : Ref sig .tc := ⟨.hbm, 27, rfl⟩
abbrev main_while0b_v35 : Ref sig .tc := ⟨.hbm, 28, rfl⟩
abbrev main_while0b_c_16 : Ref sig .tc := ⟨.hbm, 29, rfl⟩
abbrev main_while0b_v36 : Ref sig .tc := ⟨.hbm, 30, rfl⟩
abbrev main_while0b_v37 : Ref sig .tc := ⟨.hbm, 31, rfl⟩
abbrev main_while0b_c_17 : Ref sig .tc := ⟨.hbm, 32, rfl⟩
abbrev main_while0b_v38 : Ref sig .tc := ⟨.hbm, 33, rfl⟩
abbrev main_while0b_v39 : Ref sig .tc := ⟨.hbm, 34, rfl⟩
abbrev main_while0b_c_18 : Ref sig .tc := ⟨.hbm, 35, rfl⟩
abbrev main_while0b_v40 : Ref sig .tc := ⟨.hbm, 36, rfl⟩
abbrev main_while0b_v41 : Ref sig .tc := ⟨.hbm, 37, rfl⟩
abbrev main_while0b_c_19 : Ref sig .tc := ⟨.hbm, 38, rfl⟩
abbrev main_while0b_v42 : Ref sig .tc := ⟨.hbm, 39, rfl⟩
abbrev main_while0b_v43 : Ref sig .tc := ⟨.hbm, 40, rfl⟩
abbrev main_while0b_c_20 : Ref sig .tc := ⟨.hbm, 41, rfl⟩
abbrev main_while0b_v44 : Ref sig .tc := ⟨.hbm, 42, rfl⟩
abbrev main_while0b_cst_21 : Ref sig .tc := ⟨.hbm, 43, rfl⟩
abbrev main_while0b_v45 : Ref sig .tc := ⟨.hbm, 44, rfl⟩
abbrev main_while0b_cst_22 : Ref sig .tc := ⟨.hbm, 45, rfl⟩
abbrev main_while0b_v46 : Ref sig .tc := ⟨.hbm, 46, rfl⟩
abbrev main_while0b_v47 : Ref sig .tc := ⟨.hbm, 47, rfl⟩
abbrev main_while0b_v48 : Ref sig .tc := ⟨.hbm, 48, rfl⟩
abbrev main_while0b_v49 : Ref sig .tc := ⟨.hbm, 49, rfl⟩
abbrev main_while0b_v50 : Ref sig .tc := ⟨.hbm, 50, rfl⟩
abbrev main_while0b_v51 : Ref sig .tc := ⟨.hbm, 51, rfl⟩
abbrev main_while0b_v52 : Ref sig .tc := ⟨.hbm, 52, rfl⟩
abbrev main_while0b_v53 : Ref sig .tc := ⟨.hbm, 53, rfl⟩
abbrev main_while0b_v54 : Ref sig .tc := ⟨.hbm, 54, rfl⟩
abbrev main_while0b_v55 : Ref sig .tc := ⟨.hbm, 55, rfl⟩
abbrev main_while0b_v56 : Ref sig .tc := ⟨.hbm, 56, rfl⟩
abbrev main_while0b_v57 : Ref sig .tc := ⟨.hbm, 57, rfl⟩
abbrev main_while0b_v58 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_v64 : Ref sig .tc := ⟨.hbm, 64, rfl⟩
abbrev main_while0b_v65 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_v71 : Ref sig .tc := ⟨.hbm, 71, rfl⟩
abbrev main_while0b_v72 : Ref sig .tc := ⟨.hbm, 72, rfl⟩
abbrev main_while0b_v73 : Ref sig .tc := ⟨.hbm, 73, rfl⟩
abbrev main_while0b_v74 : Ref sig .tc := ⟨.hbm, 74, rfl⟩
abbrev main_while0b_v75 : Ref sig .tc := ⟨.hbm, 75, rfl⟩
abbrev main_while0b_v76 : Ref sig .tc := ⟨.hbm, 76, rfl⟩
abbrev main_while0b_v77 : Ref sig .tc := ⟨.hbm, 77, rfl⟩
abbrev main_while0b_v78 : Ref sig .tc := ⟨.hbm, 78, rfl⟩
abbrev main_while0b_v79 : Ref sig .tc := ⟨.hbm, 79, rfl⟩
abbrev main_while0b_v80 : Ref sig .tc := ⟨.hbm, 80, rfl⟩
abbrev main_while0b_v81 : Ref sig .tc := ⟨.hbm, 81, rfl⟩
abbrev main_while0b_v82 : Ref sig .tc := ⟨.hbm, 82, rfl⟩
abbrev main_while0b_v83 : Ref sig .tc := ⟨.hbm, 83, rfl⟩
abbrev main_while0b_v84 : Ref sig .tc := ⟨.hbm, 84, rfl⟩
abbrev main_while0b_v85 : Ref sig .tc := ⟨.hbm, 85, rfl⟩
abbrev main_while0b_v86 : Ref sig .tc := ⟨.hbm, 86, rfl⟩
abbrev main_while0b_v87 : Ref sig .tc := ⟨.hbm, 87, rfl⟩
abbrev main_while0b_v88 : Ref sig .tc := ⟨.hbm, 88, rfl⟩
abbrev main_while0b_v89 : Ref sig .tc := ⟨.hbm, 89, rfl⟩
abbrev main_while0b_v90 : Ref sig .tc := ⟨.hbm, 90, rfl⟩
abbrev main_while0b_v91 : Ref sig .tc := ⟨.hbm, 91, rfl⟩
abbrev main_while0b_v92 : Ref sig .tc := ⟨.hbm, 92, rfl⟩
abbrev main_while0b_v93 : Ref sig .tc := ⟨.hbm, 93, rfl⟩
abbrev main_while0b_v94 : Ref sig .tc := ⟨.hbm, 94, rfl⟩
abbrev main_while0b_cst_23 : Ref sig .tc := ⟨.hbm, 95, rfl⟩
abbrev main_while0b_v95 : Ref sig .tc := ⟨.hbm, 96, rfl⟩
abbrev main_while0b_v96 : Ref sig .tc := ⟨.hbm, 97, rfl⟩
abbrev main_while0b_cst_24 : Ref sig .tc := ⟨.hbm, 98, rfl⟩
abbrev main_while0b_v97 : Ref sig .tc := ⟨.hbm, 99, rfl⟩
abbrev main_while0b_cst_25 : Ref sig .tc := ⟨.hbm, 100, rfl⟩
abbrev main_while0b_v98 : Ref sig .tc := ⟨.hbm, 101, rfl⟩
abbrev main_while0b_v99 : Ref sig .tc := ⟨.hbm, 102, rfl⟩
abbrev main_while0b_v100 : Ref sig .tc := ⟨.hbm, 103, rfl⟩
abbrev main_while0b_v101 : Ref sig .tc := ⟨.hbm, 104, rfl⟩
abbrev main_while0b_v102 : Ref sig .tc := ⟨.hbm, 105, rfl⟩
abbrev main_while0b_v103 : Ref sig .tc := ⟨.hbm, 106, rfl⟩
abbrev main_while0b_v104 : Ref sig .tc := ⟨.hbm, 107, rfl⟩
abbrev main_while0b_v105 : Ref sig .tc := ⟨.hbm, 108, rfl⟩
abbrev main_while0b_v106 : Ref sig .tc := ⟨.hbm, 109, rfl⟩
abbrev main_while0b_v107 : Ref sig .tc := ⟨.hbm, 110, rfl⟩
abbrev main_while0b_v108 : Ref sig .tc := ⟨.hbm, 111, rfl⟩
abbrev main_while0b_v109 : Ref sig .tc := ⟨.hbm, 112, rfl⟩
abbrev main_while0b_v110 : Ref sig .tc := ⟨.hbm, 113, rfl⟩
abbrev main_while0b_v111 : Ref sig .tc := ⟨.hbm, 114, rfl⟩
abbrev main_while0b_v112 : Ref sig .tc := ⟨.hbm, 115, rfl⟩
abbrev main_while0b_v113 : Ref sig .tc := ⟨.hbm, 116, rfl⟩
abbrev main_while0b_v114 : Ref sig .tc := ⟨.hbm, 117, rfl⟩
abbrev main_while0b_v115 : Ref sig .tc := ⟨.hbm, 118, rfl⟩
abbrev main_while0b_v116 : Ref sig .tc := ⟨.hbm, 119, rfl⟩
abbrev main_while0b_v117 : Ref sig .tc := ⟨.hbm, 120, rfl⟩
abbrev main_while0b_v118 : Ref sig .tc := ⟨.hbm, 121, rfl⟩
abbrev main_while0b_v119 : Ref sig .tc := ⟨.hbm, 122, rfl⟩
abbrev main_while0b_v120 : Ref sig .tc := ⟨.hbm, 123, rfl⟩
abbrev main_while0b_v121 : Ref sig .tc := ⟨.hbm, 124, rfl⟩
abbrev main_while0b_v122 : Ref sig .tc := ⟨.hbm, 125, rfl⟩
abbrev main_while0b_v123 : Ref sig .tc := ⟨.hbm, 126, rfl⟩
abbrev main_while0b_v124 : Ref sig .tc := ⟨.hbm, 127, rfl⟩
abbrev main_while0b_v125 : Ref sig .tc := ⟨.hbm, 128, rfl⟩
abbrev main_while0b_v126 : Ref sig .tc := ⟨.hbm, 129, rfl⟩
abbrev main_while0b_v127 : Ref sig .tc := ⟨.hbm, 130, rfl⟩
abbrev main_while0b_v128 : Ref sig .tc := ⟨.hbm, 131, rfl⟩
abbrev main_while0b_v129 : Ref sig .tc := ⟨.hbm, 132, rfl⟩
abbrev main_while0b_v130 : Ref sig .tc := ⟨.hbm, 133, rfl⟩
abbrev main_while0b_v131 : Ref sig .tc := ⟨.hbm, 134, rfl⟩
abbrev main_while0b_v132 : Ref sig .tc := ⟨.hbm, 135, rfl⟩
abbrev main_while0b_v133 : Ref sig .tc := ⟨.hbm, 136, rfl⟩
abbrev main_while0b_v134 : Ref sig .tc := ⟨.hbm, 137, rfl⟩
abbrev main_while0b_v135 : Ref sig .tc := ⟨.hbm, 138, rfl⟩
abbrev main_while0b_v136 : Ref sig .tc := ⟨.hbm, 139, rfl⟩
abbrev main_while0b_v137 : Ref sig .tc := ⟨.hbm, 140, rfl⟩
abbrev main_while0b_v138 : Ref sig .tc := ⟨.hbm, 141, rfl⟩
abbrev main_while0b_v139 : Ref sig .tc := ⟨.hbm, 142, rfl⟩
abbrev main_while0b_v140 : Ref sig .tc := ⟨.hbm, 143, rfl⟩
abbrev main_while0b_v141 : Ref sig .tc := ⟨.hbm, 144, rfl⟩
abbrev main_while0b_v142 : Ref sig .tc := ⟨.hbm, 145, rfl⟩
abbrev main_while0b_v143 : Ref sig .tc := ⟨.hbm, 146, rfl⟩
abbrev main_while0b_v144 : Ref sig .tc := ⟨.hbm, 147, rfl⟩
abbrev main_while0b_v145 : Ref sig .tc := ⟨.hbm, 148, rfl⟩
abbrev main_while0b_v146 : Ref sig .tc := ⟨.hbm, 149, rfl⟩
abbrev main_while0b_c_26 : Ref sig .tc := ⟨.hbm, 150, rfl⟩
abbrev main_while0b_v147 : Ref sig .tc := ⟨.hbm, 151, rfl⟩
abbrev main_while0b_v148 : Ref sig .tc := ⟨.hbm, 152, rfl⟩
abbrev main_while0b_c_27 : Ref sig .tc := ⟨.hbm, 153, rfl⟩
abbrev main_while0b_v149 : Ref sig .tc := ⟨.hbm, 154, rfl⟩
abbrev main_while0b_v150 : Ref sig .tc := ⟨.hbm, 155, rfl⟩
abbrev main_while0b_c_28 : Ref sig .tc := ⟨.hbm, 156, rfl⟩
abbrev main_while0b_v151 : Ref sig .tc := ⟨.hbm, 157, rfl⟩
abbrev main_while0b_v152 : Ref sig .tc := ⟨.hbm, 158, rfl⟩
abbrev main_while0b_c_29 : Ref sig .tc := ⟨.hbm, 159, rfl⟩
abbrev main_while0b_v153 : Ref sig .tc := ⟨.hbm, 160, rfl⟩
abbrev main_while0b_v154 : Ref sig .tc := ⟨.hbm, 161, rfl⟩
abbrev main_while0b_c_30 : Ref sig .tc := ⟨.hbm, 162, rfl⟩
abbrev main_while0b_v155 : Ref sig .tc := ⟨.hbm, 163, rfl⟩
abbrev main_while0b_v156 : Ref sig .tc := ⟨.hbm, 164, rfl⟩
abbrev main_while0b_c_31 : Ref sig .tc := ⟨.hbm, 165, rfl⟩
abbrev main_while0b_v157 : Ref sig .tc := ⟨.hbm, 166, rfl⟩
abbrev main_while0b_v158 : Ref sig .tc := ⟨.hbm, 167, rfl⟩
abbrev main_while0b_c_32 : Ref sig .tc := ⟨.hbm, 168, rfl⟩
abbrev main_while0b_v159 : Ref sig .tc := ⟨.hbm, 169, rfl⟩
abbrev main_while0b_v160 : Ref sig .tc := ⟨.hbm, 170, rfl⟩
abbrev main_while0b_c_33 : Ref sig .tc := ⟨.hbm, 171, rfl⟩
abbrev main_while0b_v161 : Ref sig .tc := ⟨.hbm, 172, rfl⟩
abbrev main_while0b_v162 : Ref sig .tc := ⟨.hbm, 173, rfl⟩
abbrev main_while0b_c_34 : Ref sig .tc := ⟨.hbm, 174, rfl⟩
abbrev main_while0b_v163 : Ref sig .tc := ⟨.hbm, 175, rfl⟩
abbrev main_while0b_v164 : Ref sig .tc := ⟨.hbm, 176, rfl⟩
abbrev main_while0b_c_35 : Ref sig .tc := ⟨.hbm, 177, rfl⟩
abbrev main_while0b_v165 : Ref sig .tc := ⟨.hbm, 178, rfl⟩
abbrev main_while0b_c_36 : Ref sig .tc := ⟨.hbm, 179, rfl⟩
abbrev main_while0b_v166 : Ref sig .tc := ⟨.hbm, 180, rfl⟩
abbrev main_v2 : Ref sig .tc := ⟨.hbm, 181, rfl⟩
abbrev main_v3 : Ref sig .tc := ⟨.hbm, 182, rfl⟩
abbrev main_v4 : Ref sig .tc := ⟨.hbm, 183, rfl⟩
abbrev main_v5 : Ref sig .tc := ⟨.hbm, 184, rfl⟩
abbrev main_v6 : Ref sig .tc := ⟨.hbm, 185, rfl⟩
abbrev main_cst_1 : Ref sig .tc := ⟨.hbm, 186, rfl⟩
abbrev main_v7 : Ref sig .tc := ⟨.hbm, 187, rfl⟩
abbrev main_v8 : Ref sig .tc := ⟨.hbm, 188, rfl⟩
abbrev main_cst_2 : Ref sig .tc := ⟨.hbm, 189, rfl⟩
abbrev main_v9 : Ref sig .tc := ⟨.hbm, 190, rfl⟩
abbrev main_cst_3 : Ref sig .tc := ⟨.hbm, 191, rfl⟩
abbrev main_v10 : Ref sig .tc := ⟨.hbm, 192, rfl⟩
abbrev main_v11 : Ref sig .tc := ⟨.hbm, 193, rfl⟩
abbrev main_v12 : Ref sig .tc := ⟨.hbm, 194, rfl⟩
abbrev main_v13 : Ref sig .tc := ⟨.hbm, 195, rfl⟩
abbrev main_v14 : Ref sig .tc := ⟨.hbm, 196, rfl⟩
abbrev main_v15 : Ref sig .tc := ⟨.hbm, 197, rfl⟩
abbrev main_v16 : Ref sig .tc := ⟨.hbm, 198, rfl⟩
abbrev main_v17 : Ref sig .tc := ⟨.hbm, 199, rfl⟩
abbrev main_v18 : Ref sig .tc := ⟨.hbm, 200, rfl⟩
abbrev main_v19 : Ref sig .tc := ⟨.hbm, 201, rfl⟩
abbrev main_v20 : Ref sig .tc := ⟨.hbm, 202, rfl⟩
abbrev main_v21 : Ref sig .tc := ⟨.hbm, 203, rfl⟩
abbrev main_v22 : Ref sig .tc := ⟨.hbm, 204, rfl⟩
abbrev main_v23 : Ref sig .tc := ⟨.hbm, 205, rfl⟩
abbrev main_v24 : Ref sig .tc := ⟨.hbm, 206, rfl⟩
abbrev main_v25 : Ref sig .tc := ⟨.hbm, 207, rfl⟩
abbrev main_v26 : Ref sig .tc := ⟨.hbm, 208, rfl⟩
abbrev main_v27 : Ref sig .tc := ⟨.hbm, 209, rfl⟩
abbrev main_v28 : Ref sig .tc := ⟨.hbm, 210, rfl⟩
abbrev main_v29 : Ref sig .tc := ⟨.hbm, 211, rfl⟩
abbrev main_v30 : Ref sig .tc := ⟨.hbm, 212, rfl⟩

abbrev nD : Nat := 1
abbrev τ : Topo := Topo.v7x

variable {F : FTy → Type} [FloatOps F]

abbrev main_while0_count : Scf.Loop 32 := ⟨0#32, 81#32, 1#32⟩
-- ==== Proof.KernelIdeal.Tail.lean ====
module

public import proofs.«01_k».proof.Proof.Gen.KernelIdeal.Frame
public import proofs.«01_k».proof.Proof.Gen.KernelIdeal.Loops

public import Idealize.ShloMosaic.Lib.VecWindow
public import Idealize.ShloMosaic.Lib.WholeRead

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's first condition: the first grid point. -/
abbrev condInit (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1

/-- The body's last conditional: at the last grid point the accumulator is summed into the outputs. -/
def tailProg (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) : Prog (TpuEff nD τ sig (Elt F) Λ₀ .tc) PUnit :=
  if k0_h3 : k0_cond3 i = 1#1 then do
    let ⟨v6025, v6028, v6037, v6044⟩ : Σ' (v6025 : FVec F S384x384 .f32) (v6028 : FVec F S384x384 .f32) (v6037 : FVec F S386x386 .f32), FVec F S384x384 .f32 ← k0_part6 i arg2 harg2 arg3 harg3 arg4 harg4 arg5 harg5 arg6 harg6 arg7 harg7 arg8 harg8 arg9 harg9 arg10 harg10 arg11 harg11 arg12 harg12 arg13 harg13 arg14 harg14
    let v6058 : Vec F S1x384x384 .f32 ← Prog.lift (.load arg9 (Rect.unit (s := S1x384x384) ![0, 0, 0] S1x384x384.size inb_S1x384x384_S1x384x384_0_0_0).toLoadRect (View.loadsAt_vmem h_S1x384x384))
    Prog.lift (.store arg9 (Rect.unit (s := S1x384x384) ![0, 0, 0] S1x384x384.size inb_S1x384x384_S1x384x384_0_0_0) (k0_pay2 v6025 v6028 v6037 v6044) Finset.univ (View.stores_vmem_bits_univ h_S1x384x384 rfl) (.inl rfl))
    pure ⟨⟩
  else do
    pure ⟨⟩

/-- The condition of the first grid point is one of the first row of tiles. -/
theorem cond2_of_condInit : ∀ i : grid0.Coords, condInit i → k0_cond2 i = 1#1 := by
  decide +kernel

/-- Away from the last grid point nothing more is done. -/
theorem tail_none (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc : ¬k0_cond3 i = 1#1) (E : Set ℕ) (K : PUnit → sProp 𝕄) :
    K ⟨⟩ ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14) K := by
  unfold tailProg
  rw [dif_neg hc]
  iintro Hk
  sl_step
  iexact Hk

/-- The accumulator's four copies as the last conditional loads them. -/
def segL0 (x11 : Vec F S4x384x384 .f32) : Vec F S1x384x384 .f32 := fun y => x11 ((Rect.unit (s := S4x384x384) ![0, 0, 0] S1x384x384.size inb_S4x384x384_S1x384x384_0_0_0).toLoadRect.idx y)
@[inherit_doc segL0] def segL1 (x11 : Vec F S4x384x384 .f32) : Vec F S1x384x352 .f32 := fun y => x11 ((Rect.unit (s := S4x384x384) ![1, 0, 0] S1x384x352.size inb_S4x384x384_S1x384x352_1_0_0).toLoadRect.idx y)
@[inherit_doc segL0] def segL2 (x11 : Vec F S4x384x384 .f32) : Vec F S1x384x320 .f32 := fun y => x11 ((Rect.unit (s := S4x384x384) ![2, 0, 0] S1x384x320.size inb_S4x384x384_S1x384x320_2_0_0).toLoadRect.idx y)
@[inherit_doc segL0] def segL3 (x11 : Vec F S4x384x384 .f32) : Vec F S1x384x288 .f32 := fun y => x11 ((Rect.unit (s := S4x384x384) ![3, 0, 0] S1x384x288.size inb_S4x384x384_S1x384x288_3_0_0).toLoadRect.idx y)

/-- What is stored to the second output, from the accumulator. -/
def segOut (x11 : Vec F S4x384x384 .f32) : Vec F S384x384 .f32 := k0_pay54 (segL0 x11) (segL1 x11) (segL2 x11) (segL3 x11)

/-- What is stored to the first output, from the accumulator. -/
def headOut (x11 : Vec F S4x384x384 .f32) : Vec F S1x384x384 .f32 :=
  k0_pay2 (segOut x11) (k0_pay55 (segL0 x11) (segL1 x11) (segL2 x11) (segL3 x11))
    (k0_pay56 (segL0 x11) (segL1 x11) (segL2 x11) (segL3 x11)) (k0_pay57 (segL0 x11) (segL1 x11) (segL2 x11) (segL3 x11))

/-- At the last grid point the outputs are stored. -/
theorem tail_head (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x11 : Vec F S4x384x384 .f32) (hc : k0_cond3 i = 1#1)
    (x9 : Vec F S1x384x384 .f32) (x10 : Vec F S384x384 .f32) (E : Set ℕ) (K : PUnit → sProp 𝕄) :
    iprop((arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11)
      ∗ (iprop((arg9.view.loc (c : Thread nD τ) ↦[arg9.view.set]{fullShare} harg9.unread (headOut x11)) ∗ (arg10.view.loc (c : Thread nD τ) ↦[arg10.view.set]{fullShare} harg10.unread (segOut x11)) ∗ (arg11.view.loc (c : Thread nD τ) ↦[arg11.view.set]{fullShare} harg11.unread x11)) -∗ K ⟨⟩)) ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14) K := by
  have e : ∀ B, View.readAt (Elt F) arg11.view B (harg11.unread x11) = fun y => x11 (B.idx y) :=
    fun B => funext (harg11.readAt_unread x11 B)
  unfold tailProg
  rw [dif_pos hc, k0_part6_eq_skeleton]; unfold k0_part6_skel
  iintro ⟨H9, H10, H11, Hk⟩
  sl_exec
  rw [harg9.eq_unread (View.read_writes_full arg9.view _ _ _ _), harg10.eq_unread (View.read_writes_full arg10.view _ _ _ _)]
  simp only [e]
  sl_step
  iapply Hk
  isplitl [H9]; · iexact H9
  isplitl [H10]; · iexact H10
  iexact H11

end Cert.KernelIdeal.Body
-- ==== Proof.KernelIdeal.First.lean ====
module

public import proofs.«01_k».proof.Proof.KernelIdeal.Tail
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The quotient of the column tile's index by 4, as the body computes it. -/
def quot (i : grid0.Coords) : BitVec 32 :=
  Scalar.select
    (Scalar.andi
      (Scalar.cmpi .ne
        (Scalar.subi (Scalar.extui (Scalar.cmpi .sgt (BitVec.ofNat 32 (i 0).val) 0#32)) (Scalar.extui (Scalar.cmpi .slt (BitVec.ofNat 32 (i 0).val) 0#32)))
        1#32)
      (Scalar.cmpi .ne (Scalar.remsi (BitVec.ofNat 32 (i 0).val) 4#32) 0#32))
    (Scalar.subi (Scalar.divsi (BitVec.ofNat 32 (i 0).val) 4#32) 1#32)
    (Scalar.divsi (BitVec.ofNat 32 (i 0).val) 4#32)

/-- What the body's first part returns: the grid point, its copy's index, its first row and column, and the two input rows at
    the tile's top border, with the zero column put at their left. -/
def tup7 (i : grid0.Coords) (arg2 : Memref sig .tc .vmem S4x3x384x384 .bf16) (harg2 : arg2.IsWhole) (x2 : Vec F S4x3x384x384 .bf16) :
    Σ' (_ : BitVec 32) (_ : BitVec 32) (_ : BitVec 32) (_ : BitVec 32) (_ : BitVec 32) (_ : FVec F S3x2x129 .f32), FVec F S3x2x1 .f32 :=
  ⟨BitVec.ofNat 32 (i 0).val, BitVec.ofNat 32 (i 1).val,
    Scalar.subi (BitVec.ofNat 32 (i 0).val) (Scalar.muli 4#32 (quot i)),
    Scalar.muli (BitVec.ofNat 32 (i 1).val) 32#32, Scalar.muli (quot i) 128#32,
    k0_pay63 (View.readAt (Elt F) arg2.view (Rect.unit (s := S4x3x384x384) (k0_off31 i) S1x3x2x128.size (k0_off31_inb i)).toLoadRect (harg2.unread x2)), k0_pay64⟩

/-- The first part at a point of the first row of tiles: the windows of the input column that the first convolution's loop multiplies, with the
    run that leaves the strip the loop writes. -/
def part7_conv (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) (hc1 : k0_cond2 i = 1#1) :
    { w : FVec F S27x384x128 .f32 // ∀ (hc0 : ¬condInit i) (E : Set ℕ) (K : _ → sProp 𝕄),
      iprop(((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12))
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} arg12.view.writes (Elt F) (harg12.unread x12) (pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 w (harg3.unread x3) (harg4.unread x4) (Scf.trips k0_t1_loop.lb k0_t1_loop.ub k0_t1_loop.st)))) -∗ K (tup7 i arg2 harg2 x2)))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14) K } := by
  refine ⟨?_, fun hc0 E K => ?run⟩
  case run =>
    simp only [k0_part7_eq_skeleton]; unfold k0_part7_skel tup7 quot
    iintro ⟨⟨H2, H3, H4, H11, H12⟩, Hk⟩
    sl_exec (disch := first | sl_exact hc0 | sl_exact hc1)
    sl_step
    sl_unfold_run_names
    iapply Hk
    isplitl [H2]; · iexact H2
    isplitl [H3]; · iexact H3
    isplitl [H4]; · iexact H4
    isplitl [H11]; · iexact H11
    iexact H12

/-- The windows of the input column that the first convolution's loop multiplies. -/
def convW (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) (hc1 : k0_cond2 i = 1#1) : FVec F S27x384x128 .f32 :=
  (part7_conv c i arg2 harg2 arg3 harg3 arg4 harg4 arg5 harg5 arg6 harg6 arg7 harg7 arg8 harg8 arg9 harg9 arg10 harg10 arg11 harg11 arg12 harg12 arg13 harg13 arg14 harg14 x2 x3 x4 x11 x12 hc1).val

/-- The accumulator as the first part leaves it: zeroed at the first grid point, else as found. -/
def seg1 (i : grid0.Coords) (x11 : Vec F S4x384x384 .f32) : Vec F S4x384x384 .f32 :=
  if condInit i then k0_pay58 else x11

/-- The hidden strip as the first part leaves it: computed at a point of the first row of tiles, else as found. -/
def hs1 (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) : Vec F S32x384x128 .bf16 :=
  if hc1 : k0_cond2 i = 1#1 then
    arg12.view.read (Elt F) (arg12.view.writes (Elt F) (harg12.unread x12) (pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 (convW c i arg2 harg2 arg3 harg3 arg4 harg4 arg5 harg5 arg6 harg6 arg7 harg7 arg8 harg8 arg9 harg9 arg10 harg10 arg11 harg11 arg12 harg12 arg13 harg13 arg14 harg14 x2 x3 x4 x11 x12 hc1) (harg3.unread x3) (harg4.unread x4) (Scf.trips k0_t1_loop.lb k0_t1_loop.ub k0_t1_loop.st)))
  else x12

/-- The first part at the first grid point. -/
theorem part7_init (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) (hc1 : k0_cond2 i = 1#1) (hc0 : condInit i) (E : Set ℕ) (K : _ → sProp 𝕄) :
      iprop(((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12))
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread (k0_pay58 (F := F))) ∗ (arg12.view.loc (c : Thread nD τ) ↦[arg12.view.set]{fullShare} arg12.view.writes (Elt F) (harg12.unread x12) (pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 (convW c i arg2 harg2 arg3 harg3 arg4 harg4 arg5 harg5 arg6 harg6 arg7 harg7 arg8 harg8 arg9 harg9 arg10 harg10 arg11 harg11 arg12 harg12 arg13 harg13 arg14 harg14 x2 x3 x4 x11 x12 hc1) (harg3.unread x3) (harg4.unread x4) (Scf.trips k0_t1_loop.lb k0_t1_loop.ub k0_t1_loop.st)))) -∗ K (tup7 i arg2 harg2 x2)))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14) K := by
    simp only [k0_part7_eq_skeleton]; unfold k0_part7_skel tup7 quot
    iintro ⟨⟨H2, H3, H4, H11, H12⟩, Hk⟩
    sl_exec (disch := first | sl_exact hc0 | sl_exact hc1)
    sl_step
    sl_unfold_run_names
    iapply Hk
    isplitl [H2]; · iexact H2
    isplitl [H3]; · iexact H3
    isplitl [H4]; · iexact H4
    isplitl [H11]
    · rw [harg11.eq_unread (View.read_writes_full arg11.view _ _ _ _)]
      iexact H11
    iexact H12

/-- The first part away from the first row of tiles. -/
theorem part7_none (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) (hc1 : ¬k0_cond2 i = 1#1) (hc0 : ¬condInit i) (E : Set ℕ) (K : _ → sProp 𝕄) :
      iprop(((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12))
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12)) -∗ K (tup7 i arg2 harg2 x2)))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14) K := by
    simp only [k0_part7_eq_skeleton]; unfold k0_part7_skel tup7 quot
    iintro ⟨⟨H2, H3, H4, H11, H12⟩, Hk⟩
    sl_exec (disch := first | sl_exact hc0 | sl_exact hc1)
    sl_step
    sl_unfold_run_names
    iapply Hk
    isplitl [H2]; · iexact H2
    isplitl [H3]; · iexact H3
    isplitl [H4]; · iexact H4
    isplitl [H11]; · iexact H11
    iexact H12

/-- The first part at every point. -/
theorem part7_run (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x11 : Vec F S4x384x384 .f32) (x12 : Vec F S32x384x128 .bf16) (E : Set ℕ) (K : _ → sProp 𝕄) :
      iprop(((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12))
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread (seg1 i x11)) ∗ (arg12.view.loc (c : Thread nD τ) ↦[arg12.view.set]{fullShare} harg12.unread (hs1 c i arg2 harg2 arg3 harg3 arg4 harg4 arg5 harg5 arg6 harg6 arg7 harg7 arg8 harg8 arg9 harg9 arg10 harg10 arg11 harg11 arg12 harg12 arg13 harg13 arg14 harg14 x2 x3 x4 x11 x12))) -∗ K (tup7 i arg2 harg2 x2)))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14) K := by
  by_cases hc1 : k0_cond2 i = 1#1
  · rw [show harg12.unread (hs1 c i arg2 harg2 arg3 harg3 arg4 harg4 arg5 harg5 arg6 harg6 arg7 harg7 arg8 harg8 arg9 harg9 arg10 harg10 arg11 harg11 arg12 harg12 arg13 harg13 arg14 harg14 x2 x3 x4 x11 x12) = arg12.view.writes (Elt F) (harg12.unread x12) (pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 (convW c i arg2 harg2 arg3 harg3 arg4 harg4 arg5 harg5 arg6 harg6 arg7 harg7 arg8 harg8 arg9 harg9 arg10 harg10 arg11 harg11 arg12 harg12 arg13 harg13 arg14 harg14 x2 x3 x4 x11 x12 hc1) (harg3.unread x3) (harg4.unread x4) (Scf.trips k0_t1_loop.lb k0_t1_loop.ub k0_t1_loop.st)) by
      rw [hs1, dif_pos hc1, harg12.unread_read]]
    by_cases hc0 : condInit i
    · rw [show seg1 i x11 = k0_pay58 (F := F) from if_pos hc0]
      exact part7_init c i arg2 harg2 arg3 harg3 arg4 harg4 arg5 harg5 arg6 harg6 arg7 harg7 arg8 harg8 arg9 harg9 arg10 harg10 arg11 harg11 arg12 harg12 arg13 harg13 arg14 harg14 x2 x3 x4 x11 x12 hc1 hc0 E K
    · rw [show seg1 i x11 = x11 from if_neg hc0]
      exact (part7_conv c i arg2 harg2 arg3 harg3 arg4 harg4 arg5 harg5 arg6 harg6 arg7 harg7 arg8 harg8 arg9 harg9 arg10 harg10 arg11 harg11 arg12 harg12 arg13 harg13 arg14 harg14 x2 x3 x4 x11 x12 hc1).2 hc0 E K
  · have hc0 : ¬condInit i := fun h => hc1 (cond2_of_condInit i h)
    rw [show seg1 i x11 = x11 from if_neg hc0, show hs1 c i arg2 harg2 arg3 harg3 arg4 harg4 arg5 harg5 arg6 harg6 arg7 harg7 arg8 harg8 arg9 harg9 arg10 harg10 arg11 harg11 arg12 harg12 arg13 harg13 arg14 harg14 x2 x3 x4 x11 x12 = x12 from dif_neg hc1]
    exact part7_none c i arg2 harg2 arg3 harg3 arg4 harg4 arg5 harg5 arg6 harg6 arg7 harg7 arg8 harg8 arg9 harg9 arg10 harg10 arg11 harg11 arg12 harg12 arg13 harg13 arg14 harg14 x2 x3 x4 x11 x12 hc1 hc0 E K

end Cert.KernelIdeal.Body
-- ==== Proof.KernelIdeal.Strip.lean ====
module

public import proofs.«01_k».proof.Proof.KernelIdeal.First
public import Idealize.ShloMosaic.Lib.ViewIndex
public import Idealize.ShloMosaic.Lib.Pointwise.Index

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What one trip of the first convolution's loop stores: one channel of the hidden strip. -/
def tripPay (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc1 : k0_cond2 i = 1#1) (w : FVec F S27x384x128 .f32)
    (X3 : arg3.view.ty.Contents (Elt F)) (X4 : arg4.view.ty.Contents (Elt F)) (k : Fin k0_t1_loop.trips) :
    { v : FVec F S1x384x128 .bf16 // tripL_k0_t1 Variants.none c none i arg2 harg2 arg3 harg3 arg4 harg4 arg5 harg5 arg6 harg6 arg7 harg7 arg8 harg8 arg9 harg9 arg10 harg10 arg11 harg11 arg12 harg12 arg13 harg13 arg14 harg14 hc1 w X3 X4 k
      = [⟨Rect.unit (s := S32x384x128) (k0_off30 k) S1x384x128.size (k0_off30_inb i k hc1), v⟩] } :=
  by
  refine ⟨?v, ?e⟩
  case e => unfold tripL_k0_t1 trip_k0_t1; exact rfl

/-- Which channel a trip stores. -/
theorem k0_off30_eq : ∀ k : Fin k0_t1_loop.trips, k0_off30 k = ![k.val, 0, 0] := by decide +kernel

theorem trips_eq : k0_t1_loop.trips = 32 := by decide +kernel

/-- An index of the hidden strip within its channel. -/
def chanIdx (y : S32x384x128.Idx) : S1x384x128.Idx := ix3 (0 : Fin 1) (y 1 : Fin 384) (y 2 : Fin 128)

/-- The hidden strip the loop leaves. -/
def stripOf (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc1 : k0_cond2 i = 1#1) (w : FVec F S27x384x128 .f32)
    (X3 : arg3.view.ty.Contents (Elt F)) (X4 : arg4.view.ty.Contents (Elt F)) : Vec F S32x384x128 .bf16 :=
  fun y => (tripPay c i arg2 harg2 arg3 harg3 arg4 harg4 arg5 harg5 arg6 harg6 arg7 harg7 arg8 harg8 arg9 harg9 arg10 harg10 arg11 harg11 arg12 harg12 arg13 harg13 arg14 harg14 hc1 w X3 X4 ((y 0).cast trips_eq.symm)).val (chanIdx y)

/-- Every piece of the first trips is one trip's. -/
theorem pb_mem (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc1 : k0_cond2 i = 1#1) (w : FVec F S27x384x128 .f32)
    (X3 : arg3.view.ty.Contents (Elt F)) (X4 : arg4.view.ty.Contents (Elt F)) (n : ℕ) (hn : n ≤ k0_t1_loop.trips) (p : View.Piece (Elt F) S32x384x128 .bf16) :
    p ∈ pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 w X3 X4 n
      ↔ ∃ k : Fin k0_t1_loop.trips, k.val < n ∧ p = ⟨Rect.unit (s := S32x384x128) (k0_off30 k) S1x384x128.size (k0_off30_inb i k hc1), (tripPay c i arg2 harg2 arg3 harg3 arg4 harg4 arg5 harg5 arg6 harg6 arg7 harg7 arg8 harg8 arg9 harg9 arg10 harg10 arg11 harg11 arg12 harg12 arg13 harg13 arg14 harg14 hc1 w X3 X4 k).val⟩ := by
  induction n with
  | zero => simp [pb_k0_t1]
  | succ n ih =>
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 hc1 w X3 X4 ⟨n, hn⟩, (tripPay c i arg2 harg2 arg3 harg3 arg4 harg4 arg5 harg5 arg6 harg6 arg7 harg7 arg8 harg8 arg9 harg9 arg10 harg10 arg11 harg11 arg12 harg12 arg13 harg13 arg14 harg14 hc1 w X3 X4 ⟨n, hn⟩).2,
      List.mem_append, List.mem_singleton, ih (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact .inr ⟨k, h, rfl⟩
      · obtain rfl : k = ⟨n, hn⟩ := Fin.ext h
        exact .inl rfl

/-- A trip's rectangle is its channel. -/
theorem emb_trip (i : grid0.Coords) (hc1 : k0_cond2 i = 1#1) (k : Fin k0_t1_loop.trips) (x : S1x384x128.Idx) :
    (((Rect.unit (s := S32x384x128) (k0_off30 k) S1x384x128.size (k0_off30_inb i k hc1)).emb x 0).cast trips_eq.symm) = k
      ∧ chanIdx ((Rect.unit (s := S32x384x128) (k0_off30 k) S1x384x128.size (k0_off30_inb i k hc1)).emb x) = x := by
  have h0 : (x 0).val < 1 := (x 0).isLt
  refine ⟨Fin.ext ?_, Shape.idx3_ext ?_ ?_ ?_⟩
  · show k0_off30 k 0 + 1 * (x 0).val = k.val
    rw [k0_off30_eq]
    show k.val + 1 * (x 0).val = k.val
    omega
  · show 0 = (x 0).val
    omega
  · show k0_off30 k 1 + 1 * (x 1).val = (x 1).val
    rw [k0_off30_eq]
    show 0 + 1 * (x 1).val = (x 1).val
    omega
  · show k0_off30 k 2 + 1 * (x 2).val = (x 2).val
    rw [k0_off30_eq]
    show 0 + 1 * (x 2).val = (x 2).val
    omega

/-- After the loop the hidden strip is what the trips stored, whatever it held before. -/
theorem read_strip (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc1 : k0_cond2 i = 1#1) (w : FVec F S27x384x128 .f32)
    (X3 : arg3.view.ty.Contents (Elt F)) (X4 : arg4.view.ty.Contents (Elt F)) (f : arg12.view.ty.Contents (Elt F)) :
    arg12.view.read (Elt F) (arg12.view.writes (Elt F) f (pb_k0_t1 Variants.none c none i arg2 harg2 arg3 harg3 arg4 harg4 arg5 harg5 arg6 harg6 arg7 harg7 arg8 harg8 arg9 harg9 arg10 harg10 arg11 harg11 arg12 harg12 arg13 harg13 arg14 harg14 hc1 w X3 X4 (Scf.trips k0_t1_loop.lb k0_t1_loop.ub k0_t1_loop.st)))
      = stripOf c i arg2 harg2 arg3 harg3 arg4 harg4 arg5 harg5 arg6 harg6 arg7 harg7 arg8 harg8 arg9 harg9 arg10 harg10 arg11 harg11 arg12 harg12 arg13 harg13 arg14 harg14 hc1 w X3 X4 := by
  have hT : Scf.trips k0_t1_loop.lb k0_t1_loop.ub k0_t1_loop.st = k0_t1_loop.trips := rfl
  rw [hT]
  funext y
  refine View.read_writes_apply_of_pieces _ _ _ _ ?_ y ?_
  · intro p hp x
    obtain ⟨k, hk, rfl⟩ := (pb_mem c i arg2 harg2 arg3 harg3 arg4 harg4 arg5 harg5 arg6 harg6 arg7 harg7 arg8 harg8 arg9 harg9 arg10 harg10 arg11 harg11 arg12 harg12 arg13 harg13 arg14 harg14 hc1 w X3 X4 _ le_rfl p).mp hp
    obtain ⟨ek, ex⟩ := emb_trip i hc1 k x
    exact (congr (congrArg (fun k => (tripPay c i arg2 harg2 arg3 harg3 arg4 harg4 arg5 harg5 arg6 harg6 arg7 harg7 arg8 harg8 arg9 harg9 arg10 harg10 arg11 harg11 arg12 harg12 arg13 harg13 arg14 harg14 hc1 w X3 X4 k).val) ek) ex).symm
  · refine ⟨_, (pb_mem c i arg2 harg2 arg3 harg3 arg4 harg4 arg5 harg5 arg6 harg6 arg7 harg7 arg8 harg8 arg9 harg9 arg10 harg10 arg11 harg11 arg12 harg12 arg13 harg13 arg14 harg14 hc1 w X3 X4 _ le_rfl _).mpr ⟨(y 0).cast trips_eq.symm, by exact ((y 0).cast trips_eq.symm).isLt, rfl⟩, ?_⟩
    have hsz : S32x384x128.size = ![32, 384, 128] := rfl
    rw [Rect.mem_set_unit]
    intro a
    rw [k0_off30_eq]
    have h1 : (y 1).val < 384 := (y 1).isLt
    have h2 : (y 2).val < 128 := (y 2).isLt
    fin_cases a
    · exact ⟨le_rfl, Nat.lt_succ_self _⟩
    · exact ⟨Nat.zero_le _, by show (y 1).val < 0 + 384; omega⟩
    · exact ⟨Nat.zero_le _, by show (y 2).val < 0 + 128; omega⟩

/-- The loop's windows do not depend on what the scratch buffers held. -/
theorem convW_congr (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32)
    (x11 x11' : Vec F S4x384x384 .f32) (x12 x12' : Vec F S32x384x128 .bf16) (hc1 : k0_cond2 i = 1#1) :
    convW c i arg2 harg2 arg3 harg3 arg4 harg4 arg5 harg5 arg6 harg6 arg7 harg7 arg8 harg8 arg9 harg9 arg10 harg10 arg11 harg11 arg12 harg12 arg13 harg13 arg14 harg14 x2 x3 x4 x11 x12 hc1 = convW c i arg2 harg2 arg3 harg3 arg4 harg4 arg5 harg5 arg6 harg6 arg7 harg7 arg8 harg8 arg9 harg9 arg10 harg10 arg11 harg11 arg12 harg12 arg13 harg13 arg14 harg14 x2 x3 x4 x11' x12' hc1 := by
  unfold convW part7_conv
  rfl

/-- Nor does the strip at a point of the first row of tiles. -/
theorem hs1_congr (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32)
    (x11 x11' : Vec F S4x384x384 .f32) (x12 x12' : Vec F S32x384x128 .bf16) (hc1 : k0_cond2 i = 1#1) :
    hs1 c i arg2 harg2 arg3 harg3 arg4 harg4 arg5 harg5 arg6 harg6 arg7 harg7 arg8 harg8 arg9 harg9 arg10 harg10 arg11 harg11 arg12 harg12 arg13 harg13 arg14 harg14 x2 x3 x4 x11 x12 = hs1 c i arg2 harg2 arg3 harg3 arg4 harg4 arg5 harg5 arg6 harg6 arg7 harg7 arg8 harg8 arg9 harg9 arg10 harg10 arg11 harg11 arg12 harg12 arg13 harg13 arg14 harg14 x2 x3 x4 x11' x12' := by
  unfold hs1
  rw [dif_pos hc1, dif_pos hc1, read_strip, read_strip, convW_congr c i arg2 harg2 arg3 harg3 arg4 harg4 arg5 harg5 arg6 harg6 arg7 harg7 arg8 harg8 arg9 harg9 arg10 harg10 arg11 harg11 arg12 harg12 arg13 harg13 arg14 harg14 x2 x3 x4 x11 x11' x12 x12' hc1]

end Cert.KernelIdeal.Body
-- ==== Proof.KernelIdeal.Mid.lean ====
module

public import proofs.«01_k».proof.Proof.KernelIdeal.Tail

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body up to its last conditional, given its first part's run: what it leaves in the accumulator, with the run. -/
def mid (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x5 : Vec F S2x32x3x3 .f32) (x6 : Vec F S2 .f32) (x7 : Vec F S32x27 .f32) (x8 : Vec F S32x1 .f32) (x11 : Vec F S4x384x384 .f32) (x12 : Vec F S32x384x128 .bf16) (a0 a1 v23 v24 v25 : BitVec 32) (v37 : FVec F S3x2x129 .f32) (v38 : FVec F S3x2x1 .f32) :
    { f11 : arg11.view.ty.Contents (Elt F) // ∀ {R : sProp 𝕄} (h7 : ∀ (E : Set ℕ) (K : _ → sProp 𝕄),
      iprop(R ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} harg11.unread x11) ∗ (arg12.view.loc (c : Thread nD τ) ↦[arg12.view.set]{fullShare} harg12.unread x12)) -∗ K ⟨a0, a1, v23, v24, v25, v37, v38⟩)) ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14) K) f13 f14 (E : Set ℕ) (K : PUnit → sProp 𝕄),
      iprop(R ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} f13) ∗ (arg14.view.loc (c : Thread nD τ) ↦[arg14.view.set]{fullShare} f14)
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg11.view.loc (c : Thread nD τ) ↦[arg11.view.set]{fullShare} f11) ∗ (arg12.view.loc (c : Thread nD τ) ↦[arg12.view.set]{fullShare} harg12.unread x12) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (∃ f13, (arg13.view.loc (c : Thread nD τ) ↦[arg13.view.set]{fullShare} f13)) ∗ (∃ f14, (arg14.view.loc (c : Thread nD τ) ↦[arg14.view.set]{fullShare} f14))) -∗ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14) K)) ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, fun h7 f13 f14 E K => ?run⟩
  case run =>
    rw [cc0__body_eq_skeleton]; unfold cc0__body_skel
    rw [wp_bind_eq, k0_part156_eq_skeleton]; unfold k0_part156_skel
    rw [wp_bind_eq]
    iintro ⟨HR, H5, H6, H7, H8, H13, H14, Hk⟩
    iapply h7
    isplitl [HR]; · iexact HR
    iintro ⟨H2, H3, H4, H11, H12⟩
    dsimp only
    clear h7
    set_option sl_exec.stopBefore "k0_cond3" in sl_exec_parts!
    iapply Hk
    isplitl [H2]; · iexact H2
    isplitl [H3]; · iexact H3
    isplitl [H4]; · iexact H4
    isplitl [H11]; · iexact H11
    isplitl [H12]; · iexact H12
    isplitl [H5]; · iexact H5
    isplitl [H6]; · iexact H6
    isplitl [H7]; · iexact H7
    isplitl [H8]; · iexact H8
    isplitl [H13]; · iexists _; iexact H13
    iexists _; iexact H14

end Cert.KernelIdeal.Body
-- ==== Proof.KernelIdeal.Frame.lean ====
module

public import proofs.«01_k».proof.Proof.KernelIdeal.Strip
public import proofs.«01_k».proof.Proof.KernelIdeal.Mid
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev scM0_0 := Memref.whole (sig := sig) cc0_scratch0
abbrev scM0_1 := Memref.whole (sig := sig) cc0_scratch1
abbrev scM0_2 := Memref.whole (sig := sig) cc0_scratch2
abbrev scM0_3 := Memref.whole (sig := sig) cc0_scratch3

/-- A whole memref's ownership at a value is its points-to at that value's contents. -/
theorem owns_eq (c : Dev nD) {sp : Space} {s : Shape} {e : EltTy} (a : Memref sig .tc sp s e) (ha : a.IsWhole) (X : Vec F s e) :
    (owns (c : Thread nD τ) a fullShare X : sProp 𝕄) = (a.view.loc (c : Thread nD τ) ↦[a.view.set]{fullShare} ha.unread X) := by
  have h1 : (owns (c : Thread nD τ) a fullShare X : sProp 𝕄) ⊢ (a.view.loc (c : Thread nD τ) ↦[a.view.set]{fullShare} ha.unread X) := by
    unfold owns
    iintro ⟨%f, %hf, H⟩
    obtain rfl := ha.eq_unread hf
    iexact H
  have h2 : (a.view.loc (c : Thread nD τ) ↦[a.view.set]{fullShare} ha.unread X) ⊢ (owns (c : Thread nD τ) a fullShare X : sProp 𝕄) := by
    unfold owns
    iintro H
    iexists _
    isplitr
    swap; · iexact H
    ipureintro
    exact ha.read_unread X
  exact Entails.antisymm h1 h2

/-- A whole memref's contents are those of what it reads. -/
theorem pt_of (c : Dev nD) {sp : Space} {s : Shape} {e : EltTy} (a : Memref sig .tc sp s e) (ha : a.IsWhole) (f : a.view.ty.Contents (Elt F)) :
    (a.view.loc (c : Thread nD τ) ↦[a.view.set]{fullShare} f : sProp 𝕄) ⊢ (a.view.loc (c : Thread nD τ) ↦[a.view.set]{fullShare} ha.unread (a.view.read (Elt F) f)) := by
  rw [ha.unread_read]

/-- What the launch hands the region: the four scratch buffers at anything and the generator register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the accumulator and the hidden strip hold, point by point -/

/-- The hidden strip after point `t`, from what the two carried scratch buffers held before it. -/
def hsAt (c : Dev nD) (t : Fin cfg0.N) (g : Vec F S4x384x384 .f32) (h : Vec F S32x384x128 .bf16) : Vec F S32x384x128 .bf16 :=
  hs1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) g h

/-- The body's run at point `t` up to its last conditional. -/
abbrev midAt (c : Dev nD) (t : Fin cfg0.N) (s : Vec F S4x384x384 .f32) (hs : Vec F S32x384x128 .bf16) :=
  mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) s hs
    (BitVec.ofNat 32 (grid0.coords t 0).val) (BitVec.ofNat 32 (grid0.coords t 1).val)
    (Scalar.subi (BitVec.ofNat 32 (grid0.coords t 0).val) (Scalar.muli 4#32 (quot (grid0.coords t))))
    (Scalar.muli (BitVec.ofNat 32 (grid0.coords t 1).val) 32#32) (Scalar.muli (quot (grid0.coords t)) 128#32)
    (k0_pay63 (View.readAt (Elt F) (ms0_0 t).view (Rect.unit (s := S4x3x384x384) (k0_off31 (grid0.coords t)) S1x3x2x128.size (k0_off31_inb (grid0.coords t))).toLoadRect ((hs0_0 t).unread (iblk m c 0 t)))) k0_pay64

/-- The accumulator after point `t`, from what the first part left. -/
def segFrom (c : Dev nD) (t : Fin cfg0.N) (s : Vec F S4x384x384 .f32) (hs : Vec F S32x384x128 .bf16) : Vec F S4x384x384 .f32 :=
  scM0_0.view.read (Elt F) (midAt m c t s hs).val

/-- The accumulator after point `t`. -/
def segAt (c : Dev nD) (t : Fin cfg0.N) (g : Vec F S4x384x384 .f32) (h : Vec F S32x384x128 .bf16) : Vec F S4x384x384 .f32 :=
  segFrom m c t (seg1 (grid0.coords t) g) (hsAt m c t g h)

/-- The accumulator and the hidden strip before position `n`. -/
def stAt (c : Dev nD) : ℕ → Vec F S4x384x384 .f32 × Vec F S32x384x128 .bf16
  | 0 => (scM0_0.view.read (Elt F) scM0_0.view.junk, scM0_1.view.read (Elt F) scM0_1.view.junk)
  | n + 1 => if h : n < cfg0.N then (segAt m c ⟨n, h⟩ (stAt c n).1 (stAt c n).2, hsAt m c ⟨n, h⟩ (stAt c n).1 (stAt c n).2) else stAt c n

/-- The first point is the one that starts the accumulator. -/
theorem condInit_zero : ∀ t : Fin cfg0.N, t.val = 0 → condInit (grid0.coords t) := by decide +kernel

/-- What a point leaves is what the recursion says, whatever the scratch buffers held before the first point. -/
theorem stAt_succ (c : Dev nD) (t : Fin cfg0.N) (g : Vec F S4x384x384 .f32) (h : Vec F S32x384x128 .bf16)
    (hgh : t.val = 0 ∨ (g = (stAt m c t.val).1 ∧ h = (stAt m c t.val).2)) :
    segAt m c t g h = (stAt m c (t.val + 1)).1 ∧ hsAt m c t g h = (stAt m c (t.val + 1)).2 := by
  have e : stAt m c (t.val + 1) = (segAt m c t (stAt m c t.val).1 (stAt m c t.val).2, hsAt m c t (stAt m c t.val).1 (stAt m c t.val).2) := by
    rw [stAt, dif_pos t.isLt]
  rw [e]
  rcases hgh with h0 | ⟨e1, e2⟩
  · have hc := condInit_zero t h0
    have es : ∀ g : Vec F S4x384x384 .f32, seg1 (grid0.coords t) g = k0_pay58 (F := F) := fun g => if_pos hc
    have eh : hsAt m c t g h = hsAt m c t (stAt m c t.val).1 (stAt m c t.val).2 :=
      hs1_congr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (cond2_of_condInit _ hc)
    refine ⟨?_, eh⟩
    unfold segAt
    rw [eh, es g, es (stAt m c t.val).1]
  · rw [e1, e2]
    constructor
    · dsimp only
    · dsimp only

/-- The region invariant before position `n`: the carried scratch buffers at what the recursion says (at anything before the first
    point), the other two at anything, the generator register at some state. -/
def PhiS (c : Dev nD) (n : ℕ) (_ : n ≤ cfg0.N) : sProp 𝕄 :=
  iprop((∃ g, ∃ h, ⌜n = 0 ∨ (g = (stAt m c n).1 ∧ h = (stAt m c n).2)⌝ ∗ owns (c : Thread nD τ) scM0_0 fullShare g ∗ owns (c : Thread nD τ) scM0_1 fullShare h)
    ∗ (∃ d, owns (c : Thread nD τ) scM0_2 fullShare d) ∗ (∃ d, owns (c : Thread nD τ) scM0_3 fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => headOut (stAt m c (t.val + 1)).1
    | ⟨8, _⟩ => segOut (stAt m c (t.val + 1)).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = headOut (stAt m c (t.val + 1)).1 := by dsimp only [dats]
theorem after0_8 (c : Dev nD) (t : Fin cfg0.N) : (dats m 0 c).after 8 t = segOut (stAt m c (t.val + 1)).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem idleAt0_7 : ∀ t : Fin cfg0.N, ¬k0_cond3 (grid0.coords t) = 1#1 → cfg0.idle 7 (grid0.coords t) = true := by decide +kernel
theorem liveAt0_7 : ∀ t : Fin cfg0.N, k0_cond3 (grid0.coords t) = 1#1 → cfg0.idle 7 (grid0.coords t) = false := by decide +kernel
theorem idleAt0_8 : ∀ t : Fin cfg0.N, ¬k0_cond3 (grid0.coords t) = 1#1 → cfg0.idle 8 (grid0.coords t) = true := by decide +kernel
theorem liveAt0_8 : ∀ t : Fin cfg0.N, k0_cond3 (grid0.coords t) = 1#1 → cfg0.idle 8 (grid0.coords t) = false := by decide +kernel
theorem cond3_last : ∀ t : Fin cfg0.N, t.val % 81 = 80 → k0_cond3 (grid0.coords t) = 1#1 := by decide +kernel
theorem noFlush0_7 (t : Fin cfg0.N) (h : ¬k0_cond3 (grid0.coords t) = 1#1) : (cfg0.win 7).flush t = false :=
  Bool.eq_false_iff.mpr fun e => h (cond3_last t ((flush0_7 t).mp e))
theorem noFlush0_8 (t : Fin cfg0.N) (h : ¬k0_cond3 (grid0.coords t) = 1#1) : (cfg0.win 8).flush t = false :=
  Bool.eq_false_iff.mpr fun e => h (cond3_last t ((flush0_8 t).mp e))

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- The body's run at point `t` up to its last conditional, with what it leaves in the carried scratch buffers. -/
theorem mid_run (c : Dev nD) (t : Fin cfg0.N) (g : Vec F S4x384x384 .f32) (h : Vec F S32x384x128 .bf16) (g' : Vec F S4x384x384 .f32)
    (hg' : segAt m c t g h = g') (f13 : scM0_2.view.ty.Contents (Elt F)) (f14 : scM0_3.view.ty.Contents (Elt F)) (K : PUnit → sProp 𝕄) :
    iprop(((((ms0_0 t).view.loc (c : Thread nD τ)) ↦[(ms0_0 t).view.set]{fullShare} (hs0_0 t).unread (iblk m c 0 t)) ∗ (((ms0_1 t).view.loc (c : Thread nD τ)) ↦[(ms0_1 t).view.set]{fullShare} (hs0_1 t).unread (iblk m c 1 t)) ∗ (((ms0_2 t).view.loc (c : Thread nD τ)) ↦[(ms0_2 t).view.set]{fullShare} (hs0_2 t).unread (iblk m c 2 t)) ∗ (((scM0_0).view.loc (c : Thread nD τ)) ↦[(scM0_0).view.set]{fullShare} (Memref.isWhole_whole cc0_scratch0).unread g) ∗ (((scM0_1).view.loc (c : Thread nD τ)) ↦[(scM0_1).view.set]{fullShare} (Memref.isWhole_whole cc0_scratch1).unread h)) ∗ (((ms0_3 t).view.loc (c : Thread nD τ)) ↦[(ms0_3 t).view.set]{fullShare} (hs0_3 t).unread (iblk m c 3 t)) ∗ (((ms0_4 t).view.loc (c : Thread nD τ)) ↦[(ms0_4 t).view.set]{fullShare} (hs0_4 t).unread (iblk m c 4 t)) ∗ (((ms0_5 t).view.loc (c : Thread nD τ)) ↦[(ms0_5 t).view.set]{fullShare} (hs0_5 t).unread (iblk m c 5 t)) ∗ (((ms0_6 t).view.loc (c : Thread nD τ)) ↦[(ms0_6 t).view.set]{fullShare} (hs0_6 t).unread (iblk m c 6 t)) ∗ (scM0_2.view.loc (c : Thread nD τ) ↦[scM0_2.view.set]{fullShare} f13) ∗ (scM0_3.view.loc (c : Thread nD τ) ↦[scM0_3.view.set]{fullShare} f14)
      ∗ (iprop((((ms0_0 t).view.loc (c : Thread nD τ)) ↦[(ms0_0 t).view.set]{fullShare} (hs0_0 t).unread (iblk m c 0 t)) ∗ (((ms0_1 t).view.loc (c : Thread nD τ)) ↦[(ms0_1 t).view.set]{fullShare} (hs0_1 t).unread (iblk m c 1 t)) ∗ (((ms0_2 t).view.loc (c : Thread nD τ)) ↦[(ms0_2 t).view.set]{fullShare} (hs0_2 t).unread (iblk m c 2 t)) ∗ (((scM0_0).view.loc (c : Thread nD τ)) ↦[(scM0_0).view.set]{fullShare} (Memref.isWhole_whole cc0_scratch0).unread g') ∗ (((scM0_1).view.loc (c : Thread nD τ)) ↦[(scM0_1).view.set]{fullShare} (Memref.isWhole_whole cc0_scratch1).unread (hsAt m c t g h)) ∗ (((ms0_3 t).view.loc (c : Thread nD τ)) ↦[(ms0_3 t).view.set]{fullShare} (hs0_3 t).unread (iblk m c 3 t)) ∗ (((ms0_4 t).view.loc (c : Thread nD τ)) ↦[(ms0_4 t).view.set]{fullShare} (hs0_4 t).unread (iblk m c 4 t)) ∗ (((ms0_5 t).view.loc (c : Thread nD τ)) ↦[(ms0_5 t).view.set]{fullShare} (hs0_5 t).unread (iblk m c 5 t)) ∗ (((ms0_6 t).view.loc (c : Thread nD τ)) ↦[(ms0_6 t).view.set]{fullShare} (hs0_6 t).unread (iblk m c 6 t))
        ∗ (∃ f13 : scM0_2.view.ty.Contents (Elt F), (scM0_2.view.loc (c : Thread nD τ) ↦[scM0_2.view.set]{fullShare} f13)) ∗ (∃ f14 : scM0_3.view.ty.Contents (Elt F), (scM0_3.view.loc (c : Thread nD τ) ↦[scM0_3.view.set]{fullShare} f14))) -∗ wp frame (wpE (defs₀ (F := F)) Variants.none c none) Set.univ (tailProg (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _)) K))
      ⊢ wp frame (wpE (defs₀ (F := F)) Variants.none c none) Set.univ (bodyAt0 t) K := by
  have hm := (midAt m c t (seg1 (grid0.coords t) g) (hsAt m c t g h)).2 (fun E K => part7_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) g h E K) f13 f14 Set.univ K
  rw [show (midAt m c t (seg1 (grid0.coords t) g) (hsAt m c t g h)).val = (Memref.isWhole_whole cc0_scratch0).unread g' from (Memref.isWhole_whole cc0_scratch0).eq_unread hg'] at hm
  exact hm

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc]
  unfold PhiS
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  by_cases hc : k0_cond3 (grid0.coords t) = 1#1
  · rw [show (dats m 0 c).leavesExact 7 t = owns (c : Thread nD τ) (ms0_7 t) fullShare ((dats m 0 c).after 7 t) from by
      unfold Dat.leavesExact; rw [liveAt0_7 t hc], after0_7]
    rw [show (dats m 0 c).leavesExact 8 t = owns (c : Thread nD τ) (ms0_8 t) fullShare ((dats m 0 c).after 8 t) from by
      unfold Dat.leavesExact; rw [liveAt0_8 t hc], after0_8]
    simp only [owns_eq c (ms0_0 t) (hs0_0 t), owns_eq c (ms0_1 t) (hs0_1 t), owns_eq c (ms0_2 t) (hs0_2 t), owns_eq c (ms0_3 t) (hs0_3 t), owns_eq c (ms0_4 t) (hs0_4 t), owns_eq c (ms0_5 t) (hs0_5 t), owns_eq c (ms0_6 t) (hs0_6 t), owns_eq c (ms0_7 t) (hs0_7 t), owns_eq c (ms0_8 t) (hs0_8 t), owns_eq c (scM0_0) (Memref.isWhole_whole _), owns_eq c (scM0_1) (Memref.isWhole_whole _), owns_eq c (scM0_2) (Memref.isWhole_whole _), owns_eq c (scM0_3) (Memref.isWhole_whole _)]
    iintro ⟨⟨⟨%g, ⟨%h, %hgh, HG, HH⟩⟩, ⟨%d2, HT⟩, ⟨%d3, HB⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    obtain ⟨hs, hh⟩ := stAt_succ m c t g h hgh
    iapply (mid_run m c t g h _ hs _ _ _)
    isplitl [H0 H1 H2 HG HH]
    · isplitl [H0]; · iexact H0
      isplitl [H1]; · iexact H1
      isplitl [H2]; · iexact H2
      isplitl [HG]; · iexact HG
      iexact HH
    isplitl [H3]; · iexact H3
    isplitl [H4]; · iexact H4
    isplitl [H5]; · iexact H5
    isplitl [H6]; · iexact H6
    isplitl [HT]; · iexact HT
    isplitl [HB]; · iexact HB
    iintro ⟨H0, H1, H2, HG, HH, H3, H4, H5, H6, ⟨%fT, HT⟩, ⟨%fB, HB⟩⟩
    iapply (tail_head c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (stAt m c (t.val + 1)).1 hc _ _ Set.univ _)
    isplitl [H7]; · iexact H7
    isplitl [H8]; · iexact H8
    isplitl [HG]; · iexact HG
    iintro ⟨H7, H8, HG⟩
    isplitl [HG HH HT HB Hr]
    · isplitl [HG HH]
      · iexists _; iexists _
        isplitr
        swap
        · isplitl [HG]; · iexact HG
          iexact HH
        ipureintro
        exact .inr ⟨rfl, hh⟩
      isplitl [HT]; · iexists scM0_2.view.read (Elt F) fT; iapply (pt_of c scM0_2 (Memref.isWhole_whole _) fT); iexact HT
      isplitl [HB]; · iexists scM0_3.view.read (Elt F) fB; iapply (pt_of c scM0_3 (Memref.isWhole_whole _) fB); iexact HB
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 7 t (idleAt0_7 t hc) (noFlush0_7 t hc), Dat.leavesExact_idle (dats m 0 c) 8 t (idleAt0_8 t hc) (noFlush0_8 t hc)]
    simp only [owns_eq c (ms0_0 t) (hs0_0 t), owns_eq c (ms0_1 t) (hs0_1 t), owns_eq c (ms0_2 t) (hs0_2 t), owns_eq c (ms0_3 t) (hs0_3 t), owns_eq c (ms0_4 t) (hs0_4 t), owns_eq c (ms0_5 t) (hs0_5 t), owns_eq c (ms0_6 t) (hs0_6 t), owns_eq c (ms0_7 t) (hs0_7 t), owns_eq c (ms0_8 t) (hs0_8 t), owns_eq c (scM0_0) (Memref.isWhole_whole _), owns_eq c (scM0_1) (Memref.isWhole_whole _), owns_eq c (scM0_2) (Memref.isWhole_whole _), owns_eq c (scM0_3) (Memref.isWhole_whole _)]
    iintro ⟨⟨⟨%g, ⟨%h, %hgh, HG, HH⟩⟩, ⟨%d2, HT⟩, ⟨%d3, HB⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    obtain ⟨hs, hh⟩ := stAt_succ m c t g h hgh
    iapply (mid_run m c t g h _ hs _ _ _)
    isplitl [H0 H1 H2 HG HH]
    · isplitl [H0]; · iexact H0
      isplitl [H1]; · iexact H1
      isplitl [H2]; · iexact H2
      isplitl [HG]; · iexact HG
      iexact HH
    isplitl [H3]; · iexact H3
    isplitl [H4]; · iexact H4
    isplitl [H5]; · iexact H5
    isplitl [H6]; · iexact H6
    isplitl [HT]; · iexact HT
    isplitl [HB]; · iexact HB
    iintro ⟨H0, H1, H2, HG, HH, H3, H4, H5, H6, ⟨%fT, HT⟩, ⟨%fB, HB⟩⟩
    iapply (tail_none c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) hc Set.univ _)
    isplitl [HG HH HT HB Hr]
    · isplitl [HG HH]
      · iexists _; iexists _
        isplitr
        swap
        · isplitl [HG]; · iexact HG
          iexact HH
        ipureintro
        exact .inr ⟨rfl, hh⟩
      isplitl [HT]; · iexists scM0_2.view.read (Elt F) fT; iapply (pt_of c scM0_2 (Memref.isWhole_whole _) fT); iexact HT
      isplitl [HB]; · iexists scM0_3.view.read (Elt F) fB; iapply (pt_of c scM0_3 (Memref.isWhole_whole _) fB); iexact HB
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%g, HG⟩, ⟨%h, HH⟩, HT, HB⟩, Hr⟩
  isplitl [HG HH]
  · iexists g; iexists h
    isplitr
    swap
    · isplitl [HG]; · iexact HG
      iexact HH
    ipureintro
    exact .inl rfl
  isplitl [HT]; · iexact HT
  isplitl [HB]; · iexact HB
  iexact Hr

/-- The invariant after the last point gives back what the launch handed over. -/
theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS
  iintro ⟨⟨%g, ⟨%h, %_, HG, HH⟩⟩, HT, HB, Hr⟩
  isplitl [HG HH HT HB]
  · isplitl [HG]; · iexists g; iexact HG
    isplitl [HH]; · iexists h; iexact HH
    isplitl [HT]; · iexact HT
    iexact HB
  iexact Hr

set_option backward.isDefEq.respectTransparency.types false in
/-- The launch: every final state has every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body
-- ==== Proof.KernelIdeal.Form.lean ====
module

public import proofs.«01_k».proof.Proof.KernelIdeal.Strip
public import proofs.«01_k».proof.Proof.KernelIdeal.Mid

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

variable {F : FTy → Type} [FloatOps F]

/-! ## The sums of 27 products -/

/-- The zero block. -/
def zeroV (s : Shape) : FVec F s .f32 := broadcast s (Scalar.ofBits .f32 0x00000000#32)

/-- Eight summands from the `b`-th, added in pairs. -/
def tree8 {s : Shape} (p : ℕ → FVec F s .f32) (b : ℕ) : FVec F s .f32 :=
  addf (addf (addf (p b) (p (b + 1))) (addf (p (b + 2)) (p (b + 3)))) (addf (addf (p (b + 4)) (p (b + 5))) (addf (p (b + 6)) (p (b + 7))))

/-- Twenty-seven summands, in the order the body adds them. -/
def red27 {s : Shape} (p : ℕ → FVec F s .f32) : FVec F s .f32 :=
  addf (addf (addf (tree8 p 0) (tree8 p 8)) (tree8 p 16)) (addf (addf (p 24) (p 25)) (p 26))

/-! ## The rows at a tile's top and bottom border -/

/-- A row lies in the pair of rows. -/
theorem slices_pair (n : ℕ) : S3x2x130.Slices ![0, n % 2, 0] S3x1x130 := by
  have h : ∀ k : Fin 2, S3x2x130.Slices ![0, k.val, 0] S3x1x130 := by decide
  exact h ⟨n % 2, Nat.mod_lt _ (by decide)⟩

/-- A tap lies in the padded row. -/
theorem slices_tapRow (t : ℕ) : S3x130.Slices ![t % 3, t / 3 % 3] S1x128 := by
  have h : ∀ a b : Fin 3, S3x130.Slices ![a.val, b.val] S1x128 := by decide
  exact h ⟨t % 3, Nat.mod_lt _ (by decide)⟩ ⟨t / 3 % 3, Nat.mod_lt _ (by decide)⟩

/-- One of the two input rows, with its three channels. -/
def rowF (X : FVec F S3x2x130 .f32) (n : ℕ) : FVec F S3x130 .f32 :=
  shapeCast S3x130 (extractStridedSlice S3x1x130 ![0, n % 2, 0] X (slices_pair n)) shapeCasts_S3x1x130_S3x130

/-- The `t`-th product: a weight of every channel times an input row shifted. -/
def ringProd (col : Vec F S32x1 .f32) (row : FVec F S3x130 .f32) (t : ℕ) : FVec F S32x128 .f32 :=
  mulf (broadcastTo S32x128 (shapeCast S32x1 col shapeCasts_S32x1_S32x1) broadcasts_S32x1_S32x128)
    (broadcastTo S32x128 (shapeCast S1x128 (shapeCast S128 (extractStridedSlice S1x128 ![t % 3, t / 3 % 3] row (slices_tapRow t)) shapeCasts_S1x128_S128) shapeCasts_S128_S1x128) broadcasts_S1x128_S32x128)

/-- The hidden row from its 27 products. -/
def ringEnd (p : ℕ → FVec F S32x128 .f32) (bias : Vec F S32x1 .f32) : FVec F S32x128 .bf16 :=
  shapeCast S32x128 (truncf .bf16 (maximumf (addf (red27 p) (broadcastTo S32x128 (shapeCast S32x1 bias shapeCasts_S32x1_S32x1) broadcasts_S32x1_S32x128)) (zeroV S32x128)) bitsLt_bf16_f32) shapeCasts_S32x128_S32x128

/-- The hidden row at a tile's top border: the row above it is zero. -/
def topRow (X : FVec F S3x2x130 .f32) (col : ℕ → Vec F S32x1 .f32) (bias : Vec F S32x1 .f32) : FVec F S32x128 .bf16 :=
  ringEnd (fun t => if t < 9 then zeroV S32x128 else ringProd (col t) (rowF X (t / 9 - 1)) t) bias

/-- The hidden row at a tile's bottom border: the row below it is zero. -/
def botRow (X : FVec F S3x2x130 .f32) (col : ℕ → Vec F S32x1 .f32) (bias : Vec F S32x1 .f32) : FVec F S32x128 .bf16 :=
  ringEnd (fun t => if t < 18 then ringProd (col t) (rowF X (t / 9)) t else zeroV S32x128) bias

/-! ## The second convolution's sums -/

/-- A channel's 32 rows of the hidden strip. -/
def plainRows (h : Vec F S1x32x128 .bf16) : FVec F S32x128 .f32 :=
  extf .f32 (shapeCast S32x128 h shapeCasts_S1x32x128_S32x128) bitsLt_bf16_f32

/-- A channel's 32 rows, one of them replaced. -/
def maskRows (m : IVec S32x128 1) (h : Vec F S1x32x128 .bf16) (r : Vec F S1x128 .bf16) : FVec F S32x128 .f32 :=
  select m (broadcastTo S32x128 (shapeCast S1x128 (shapeCast S1x128 (extf .f32 (shapeCast S128 r shapeCasts_S1x128_S128) bitsLt_bf16_f32) shapeCasts_S128_S1x128) shapeCasts_S1x128_S1x128) broadcasts_S1x128_S32x128) (plainRows h)

/-- The sum over the first `n` channels of a weight times the channel's rows. -/
def accF (w : ℕ → F .f32) (h : ℕ → FVec F S32x128 .f32) (n : ℕ) : FVec F S32x128 .f32 :=
  Nat.rec (zeroV S32x128) (fun k a => addf a (mulf (broadcast S32x128 (w k)) (h k))) n

/-- A tap lies in the padded tile. -/
theorem slices_tap (t : ℕ) : S130x130.Slices ![t / 3 % 3, t % 3] S128x128 := by
  have h : ∀ a b : Fin 3, S130x130.Slices ![a.val, b.val] S128x128 := by decide
  exact h ⟨t / 3 % 3, Nat.mod_lt _ (by decide)⟩ ⟨t % 3, Nat.mod_lt _ (by decide)⟩

/-- The zero put around a tile. -/
def padZ : F .f32 := Scalar.sitofp .f32 0#32

/-- A tile with one row and column of zeros at every side. -/
def padF (x : FVec F S128x128 .f32) : FVec F S130x130 .f32 :=
  concatenate S130x130 1 [⟨S130x129, concatenate S130x129 1 [⟨S130x1, broadcast S130x1 padZ⟩, ⟨S130x128, concatenate S130x128 0 [⟨S129x128, concatenate S129x128 0 [⟨S1x128, broadcast S1x128 padZ⟩, ⟨S128x128, x⟩] concatenates_S1x128_S128x128_S129x128_d0⟩, ⟨S1x128, broadcast S1x128 padZ⟩] concatenates_S129x128_S1x128_S130x128_d0⟩] concatenates_S130x1_S130x128_S130x129_d1⟩, ⟨S130x1, broadcast S130x1 padZ⟩] concatenates_S130x129_S130x1_S130x130_d1

/-- One tap's tile, from its four strips. -/
def tileF (a0 a1 a2 a3 : FVec F S32x128 .f32) : FVec F S128x128 .f32 :=
  concatenate S128x128 0 [⟨S32x128, a0⟩, ⟨S32x128, a1⟩, ⟨S32x128, a2⟩, ⟨S32x128, a3⟩] concatenates_S32x128_S32x128_S32x128_S32x128_S128x128_d0

/-- The sum of the first `n` taps' tiles, each shifted by its tap. -/
def outF (b : F .f32) (tile : ℕ → FVec F S128x128 .f32) (n : ℕ) : FVec F S128x128 .f32 :=
  Nat.rec (broadcast S128x128 b) (fun t o => addf o (extractStridedSlice S128x128 ![t / 3 % 3, t % 3] (padF (tile t)) (slices_tap t))) n

/-- What a grid point adds to the accumulator's tile: the second convolution's difference of channels. -/
def contrF (w : ℕ → ℕ → F .f32) (h : ℕ → ℕ → Vec F S1x32x128 .bf16) (rt rb : ℕ → Vec F S1x128 .bf16) (mt mb : IVec S32x128 1) (b : F .f32) : FVec F S128x128 .f32 :=
  outF b (fun t => tileF (accF (fun n => w n t) (fun n => maskRows mt (h 0 n) (rt n)) 32) (accF (fun n => w n t) (fun n => plainRows (h 1 n)) 32)
    (accF (fun n => w n t) (fun n => plainRows (h 2 n)) 32) (accF (fun n => w n t) (fun n => maskRows mb (h 3 n) (rb n)) 32)) 9

/-! ## The loads -/

/-- A weight is read inside the second weights. -/
theorem inb_w2 (o n t : ℕ) : ∀ a, (![o % 2, n % 32, t / 3 % 3, t % 3] : Fin 4 → ℕ) a + S1x1x1x1.size a ≤ S2x32x3x3.size a := by
  have h1 := Nat.mod_lt o (show 0 < 2 by decide)
  have h2 := Nat.mod_lt n (show 0 < 32 by decide)
  have h3 := Nat.mod_lt (t / 3) (show 0 < 3 by decide)
  have h4 := Nat.mod_lt t (show 0 < 3 by decide)
  intro a
  match a with
  | ⟨0, _⟩ => exact (show o % 2 + 1 ≤ 2 by omega)
  | ⟨1, _⟩ => exact (show n % 32 + 1 ≤ 32 by omega)
  | ⟨2, _⟩ => exact (show t / 3 % 3 + 1 ≤ 3 by omega)
  | ⟨3, _⟩ => exact (show t % 3 + 1 ≤ 3 by omega)

/-- Where a strip's rows of a channel lie. -/
def offH (i : grid0.Coords) (s n : ℕ) : Fin 3 → ℕ :=
  ![n % 32, (Scalar.indexCast (Scalar.addi (Scalar.muli (BitVec.ofNat 32 (i 1).val) 32#32) (BitVec.ofNat 32 (32 * (s % 4))))).toNat, 0]

/-- Where a strip's hidden values are read. -/
theorem offH_eq (i : grid0.Coords) (s n : ℕ) : offH i s n = ![n % 32, 32 * (i 1).val + 32 * (s % 4), 0] := by
  have h : ∀ (a : Fin 9) (s : Fin 4), (Scalar.indexCast (Scalar.addi (Scalar.muli (BitVec.ofNat 32 a.val) 32#32) (BitVec.ofNat 32 (32 * s.val)))).toNat = 32 * a.val + 32 * s.val := by decide +kernel
  unfold offH
  rw [h (i 1) ⟨s % 4, Nat.mod_lt _ (by decide)⟩]

/-- A strip's hidden values are read inside the buffer. -/
theorem inb_h (i : grid0.Coords) (s n : ℕ) : ∀ a, offH i s n a + S1x32x128.size a ≤ S32x384x128.size a := by
  have h1 := Nat.mod_lt s (show 0 < 4 by decide)
  have h2 := Nat.mod_lt n (show 0 < 32 by decide)
  have h3 : (i 1).val < 9 := (i 1).isLt
  intro a
  rw [offH_eq]
  match a with
  | ⟨0, _⟩ => exact (show n % 32 + 1 ≤ 32 by omega)
  | ⟨1, _⟩ => exact (show 32 * (i 1).val + 32 * (s % 4) + 32 ≤ 384 by omega)
  | ⟨2, _⟩ => exact (show 0 + 128 ≤ 128 by omega)

/-- A border row is read inside its buffer. -/
theorem inb_row (n : ℕ) : ∀ a, (![n % 32, 0] : Fin 2 → ℕ) a + S1x128.size a ≤ S32x128.size a := by
  have h1 := Nat.mod_lt n (show 0 < 32 by decide)
  intro a
  match a with
  | ⟨0, _⟩ => exact (show n % 32 + 1 ≤ 32 by omega)
  | ⟨1, _⟩ => exact (show 0 + 128 ≤ 128 by omega)

/-- A column is read inside the columns. -/
theorem inb_col (t : ℕ) : ∀ a, (![0, t % 27] : Fin 2 → ℕ) a + S32x1.size a ≤ S32x27.size a := by
  have h1 := Nat.mod_lt t (show 0 < 27 by decide)
  intro a
  match a with
  | ⟨0, _⟩ => exact (show 0 + 32 ≤ 32 by omega)
  | ⟨1, _⟩ => exact (show t % 27 + 1 ≤ 27 by omega)

/-- A weight of the second convolution, loaded. -/
def ldW2 (arg5 : Memref sig .tc .smem S2x32x3x3 .f32) (harg5 : arg5.IsWhole) (x5 : Vec F S2x32x3x3 .f32) (o n t : ℕ) : F .f32 :=
  View.readAt (Elt F) arg5.view (Rect.unit (s := S2x32x3x3) ![o % 2, n % 32, t / 3 % 3, t % 3] S1x1x1x1.size (inb_w2 o n t)).toLoadRect (harg5.unread x5) (Shape.Idx.first (show 0 < S1x1x1x1.numel by decide))

/-- A strip's rows of a channel, loaded. -/
def ldH (i : grid0.Coords) (arg12 : Memref sig .tc .vmem S32x384x128 .bf16) (harg12 : arg12.IsWhole) (x12 : Vec F S32x384x128 .bf16) (s n : ℕ) : Vec F S1x32x128 .bf16 :=
  View.readAt (Elt F) arg12.view (Rect.unit (s := S32x384x128) (offH i s n) S1x32x128.size (inb_h i s n)).toLoadRect (harg12.unread x12)

/-- A column of the first convolution's weights, loaded. -/
def ldCol (arg7 : Memref sig .tc .vmem S32x27 .f32) (harg7 : arg7.IsWhole) (x7 : Vec F S32x27 .f32) (t : ℕ) : Vec F S32x1 .f32 :=
  View.readAt (Elt F) arg7.view (Rect.unit (s := S32x27) ![0, t % 27] S32x1.size (inb_col t)).toLoadRect (harg7.unread x7)

/-- The first convolution's biases, loaded. -/
def ldBias (arg8 : Memref sig .tc .vmem S32x1 .f32) (harg8 : arg8.IsWhole) (x8 : Vec F S32x1 .f32) : Vec F S32x1 .f32 :=
  View.readAt (Elt F) arg8.view (Rect.unit (s := S32x1) ![0, 0] S32x1.size inb_S32x1_S32x1_0_0).toLoadRect (harg8.unread x8)

/-- A row of the scratch just stored, loaded. -/
def ldRow (arg13 : Memref sig .tc .vmem S32x128 .bf16) (x : FVec F S32x128 .bf16) (n : ℕ) : Vec F S1x128 .bf16 :=
  arg13.view.readCov (Val := Elt F) [⟨Rect.unit (s := S32x128) ![0, 0] S32x128.size inb_S32x128_S32x128_0_0, x⟩] (Rect.unit (s := S32x128) ![n % 32, 0] S1x128.size (inb_row n)).toLoadRect

/-- The second convolution's bias, loaded. -/
def ldB2 (arg6 : Memref sig .tc .smem S2 .f32) (harg6 : arg6.IsWhole) (x6 : Vec F S2 .f32) : F .f32 :=
  Scalar.subf (View.readAt (Elt F) arg6.view (Rect.unit (s := S2) ![1] S1.size inb_S2_S1_1).toLoadRect (harg6.unread x6) (Shape.Idx.first (show 0 < S1.numel by decide)))
    (View.readAt (Elt F) arg6.view (Rect.unit (s := S2) ![0] S1.size inb_S2_S1_0).toLoadRect (harg6.unread x6) (Shape.Idx.first (show 0 < S1.numel by decide)))

/-- The two input rows at the tile's bottom border, loaded. -/
def ldBot (i : grid0.Coords) (arg2 : Memref sig .tc .vmem S4x3x384x384 .bf16) (harg2 : arg2.IsWhole) (x2 : Vec F S4x3x384x384 .bf16) : FVec F S3x2x130 .f32 :=
  k0_pay66 (View.readAt (Elt F) arg2.view (Rect.unit (s := S4x3x384x384) (k0_off32 i) S1x3x8x128.size (k0_off32_inb i)).toLoadRect (harg2.unread x2))

/-- What a grid point adds, from the arrays it reads. -/
def contrAt (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x5 : Vec F S2x32x3x3 .f32) (x6 : Vec F S2 .f32) (x7 : Vec F S32x27 .f32) (x8 : Vec F S32x1 .f32) (x12 : Vec F S32x384x128 .bf16) (a1 : BitVec 32) (v37 : FVec F S3x2x129 .f32) (v38 : FVec F S3x2x1 .f32) : FVec F S128x128 .f32 :=
  contrF (fun n t => Scalar.subf (ldW2 arg5 harg5 x5 1 n t) (ldW2 arg5 harg5 x5 0 n t)) (ldH i arg12 harg12 x12)
    (ldRow arg13 (topRow (k0_pay65 v37 v38) (ldCol arg7 harg7 x7) (ldBias arg8 harg8 x8)))
    (ldRow arg14 (botRow (ldBot i arg2 harg2 x2) (ldCol arg7 harg7 x7) (ldBias arg8 harg8 x8)))
    (k0_pay401 a1) (k0_pay402 a1) (ldB2 arg6 harg6 x6)

set_option maxHeartbeats 0 in
set_option maxRecDepth 1000000 in
/-- What the body leaves in the accumulator: the tile as found plus what the grid point adds. -/
theorem mid_val (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32) (x5 : Vec F S2x32x3x3 .f32) (x6 : Vec F S2 .f32) (x7 : Vec F S32x27 .f32) (x8 : Vec F S32x1 .f32) (x11 : Vec F S4x384x384 .f32) (x12 : Vec F S32x384x128 .bf16) (a0 a1 v23 v24 v25 : BitVec 32) (v37 : FVec F S3x2x129 .f32) (v38 : FVec F S3x2x1 .f32) :
    (mid c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 x11 x12 a0 a1 v23 v24 v25 v37 v38).val
      = arg11.view.writes (Elt F) (harg11.unread x11) [⟨Rect.unit (s := S4x384x384) (k0_off65 i) S1x128x128.size (k0_off65_inb i),
          shapeCast S1x128x128 (addf (shapeCast S128x128 (View.readAt (Elt F) arg11.view (Rect.unit (s := S4x384x384) (k0_off65 i) S1x128x128.size (k0_off65_inb i)).toLoadRect (harg11.unread x11)) shapeCasts_S1x128x128_S128x128)
            (contrAt i arg2 harg2 arg3 harg3 arg4 harg4 arg5 harg5 arg6 harg6 arg7 harg7 arg8 harg8 arg9 harg9 arg10 harg10 arg11 harg11 arg12 harg12 arg13 harg13 arg14 harg14 x2 x5 x6 x7 x8 x12 a1 v37 v38)) shapeCasts_S128x128_S1x128x128⟩] := by
  unfold mid
  sl_kernel_rfl

end Cert.KernelIdeal.Body
-- ==== Proof.KernelIdeal.Tile.lean ====
module

public import proofs.«01_k».proof.Proof.KernelIdeal.Form
public import Idealize.ShloMosaic.Lib.Pointwise
public import Idealize.ShloMosaic.Lib.WholeRead

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## The closed forms at an index, over the extended reals -/

/-- The zero vector at an index. -/
theorem zeroV_apply (s : Shape) (j : s.Idx) : (zeroV s : FVec Ideal s .f32) j = 0 := by
  pointwise [zeroV]

/-- Twenty-seven terms added, at an index. -/
theorem red27_apply {s : Shape} (p : ℕ → FVec Ideal s .f32) (j : s.Idx) :
    red27 p j = ∑ t ∈ Finset.range 27, (p t j : EReal) := by
  simp only [red27, tree8, addf_apply, Ideal.addf_def, Finset.sum_range_succ, Finset.sum_range_zero, zero_add, add_assoc, Nat.reduceAdd]

/-- A sum over hidden channels, at an index. -/
theorem accF_apply (w : ℕ → Ideal .f32) (h : ℕ → FVec Ideal S32x128 .f32) (n : ℕ) (j : S32x128.Idx) :
    accF w h n j = ∑ k ∈ Finset.range n, (w k : EReal) * (h k j : EReal) := by
  induction n with
  | zero => exact zeroV_apply _ j
  | succ n ih =>
    rw [Finset.sum_range_succ, ← ih]
    rfl

/-- A tile read at any pair of numbers, zero outside. -/
def at2 (x : FVec Ideal S128x128 .f32) (p q : ℕ) : EReal :=
  if h : p < 128 ∧ q < 128 then x (ix2 ⟨p, h.1⟩ ⟨q, h.2⟩) else 0

/-- Two indices of rank two with equal coordinates are equal. -/
theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- A padded tile at an index. -/
theorem padF_apply (x : FVec Ideal S128x128 .f32) (a b : Fin 130) :
    padF x (ix2 a b) = if 1 ≤ a.val ∧ 1 ≤ b.val then at2 x (a.val - 1) (b.val - 1) else 0 := by
  have ha := a.isLt
  have hb := b.isLt
  pointwise [padF, padZ]
  have z : ((((0#32 : BitVec 32).toInt : ℤ) : ℝ) : EReal) = 0 := by simp
  simp only [z]
  unfold at2
  split_ifs <;> first
    | rfl
    | (exfalso; omega)
    | exact Eq.symm ((if_pos (by omega)).trans (dif_pos (by omega)))
    | exact Eq.symm (if_neg (by omega))

/-- The second convolution from its taps, at an index. -/
theorem outF_apply (b : Ideal .f32) (tile : ℕ → FVec Ideal S128x128 .f32) (n : ℕ) (p q : Fin 128) :
    outF b tile n (ix2 p q) = (b : EReal) + ∑ t ∈ Finset.range n, (if 1 ≤ p.val + t / 3 % 3 ∧ 1 ≤ q.val + t % 3 then at2 (tile t) (p.val + t / 3 % 3 - 1) (q.val + t % 3 - 1) else 0) := by
  induction n with
  | zero => exact (add_zero _).symm
  | succ n ih =>
    rw [Finset.sum_range_succ, ← add_assoc, ← ih]
    have e : (extractStridedSlice S128x128 ![n / 3 % 3, n % 3] (padF (tile n)) (slices_tap n)) (ix2 p q)
        = padF (tile n) (ix2 ⟨p.val + n / 3 % 3, by have := p.isLt; omega⟩ ⟨q.val + n % 3, by have := q.isLt; omega⟩) := by
      refine congrArg (padF (tile n)) (idx2_ext ?_ ?_)
      · exact Nat.add_comm _ _
      · exact Nat.add_comm _ _
    exact (congrArg (fun z : EReal => (outF b tile n (ix2 p q) : EReal) + z) (e.trans (padF_apply _ _ _)))

/-- A tile from its strips, at an index. -/
theorem tileF_apply (a : ℕ → FVec Ideal S32x128 .f32) (p q : Fin 128) :
    tileF (a 0) (a 1) (a 2) (a 3) (ix2 p q) = a (p.val / 32) (ix2 ⟨p.val % 32, Nat.mod_lt _ (by decide)⟩ q) := by
  have hp := p.isLt
  pointwise [tileF]
  have key : ∀ (k : ℕ) (r : Fin 32), p.val = 32 * k + r.val → a k (ix2 r q) = a (p.val / 32) (ix2 ⟨p.val % 32, Nat.mod_lt _ (by decide)⟩ q) := by
    intro k r e
    have := r.isLt
    obtain rfl : r = ⟨p.val % 32, Nat.mod_lt _ (by decide)⟩ := Fin.ext (by show r.val = p.val % 32; omega)
    rw [show p.val / 32 = k by omega]
  split_ifs <;> first
    | exact key 0 _ (by show p.val = 32 * 0 + p.val; omega)
    | exact key 1 _ (by show p.val = 32 * 1 + (p.val - 32); omega)
    | exact key 2 _ (by show p.val = 32 * 2 + (p.val - 32 - 32); omega)
    | exact key 3 _ (by show p.val = 32 * 3 + (p.val - 32 - 32 - 32); omega)

/-- What a grid point adds at an index, given the tile's hidden values. -/
theorem contrF_apply (w : ℕ → ℕ → Ideal .f32) (h : ℕ → ℕ → Vec Ideal S1x32x128 .bf16) (rt rb : ℕ → Vec Ideal S1x128 .bf16) (mt mb : IVec S32x128 1) (b : Ideal .f32)
    (hid : ℕ → ℕ → ℕ → EReal)
    (h0 : ∀ n < 32, ∀ r : Fin 32, ∀ q : Fin 128, maskRows mt (h 0 n) (rt n) (ix2 r q) = hid n r.val q.val)
    (h1 : ∀ n < 32, ∀ r : Fin 32, ∀ q : Fin 128, plainRows (h 1 n) (ix2 r q) = hid n (32 + r.val) q.val)
    (h2 : ∀ n < 32, ∀ r : Fin 32, ∀ q : Fin 128, plainRows (h 2 n) (ix2 r q) = hid n (64 + r.val) q.val)
    (h3 : ∀ n < 32, ∀ r : Fin 32, ∀ q : Fin 128, maskRows mb (h 3 n) (rb n) (ix2 r q) = hid n (96 + r.val) q.val)
    (p q : Fin 128) :
    contrF w h rt rb mt mb b (ix2 p q) = (b : EReal) + ∑ t ∈ Finset.range 9,
      (if 1 ≤ p.val + t / 3 % 3 ∧ 1 ≤ q.val + t % 3 ∧ p.val + t / 3 % 3 ≤ 128 ∧ q.val + t % 3 ≤ 128 then
        ∑ n ∈ Finset.range 32, (w n t : EReal) * hid n (p.val + t / 3 % 3 - 1) (q.val + t % 3 - 1) else 0) := by
  unfold contrF
  rw [outF_apply]
  refine congrArg (fun z : EReal => (b : EReal) + z) (Finset.sum_congr rfl fun t _ => ?_)
  by_cases hh : 1 ≤ p.val + t / 3 % 3 ∧ 1 ≤ q.val + t % 3 ∧ p.val + t / 3 % 3 ≤ 128 ∧ q.val + t % 3 ≤ 128
  swap
  · rw [if_neg hh]
    split_ifs with hc
    · unfold at2
      rw [dif_neg]
      omega
    · rfl
  rw [if_pos hh, if_pos ⟨hh.1, hh.2.1⟩]
  unfold at2
  rw [dif_pos ⟨by omega, by omega⟩]
  refine (tileF_apply (fun s => accF (fun n => w n t) (fun n => if s = 0 then maskRows mt (h 0 n) (rt n) else if s = 1 then plainRows (h 1 n) else if s = 2 then plainRows (h 2 n) else maskRows mb (h 3 n) (rb n)) 32) _ _).trans ?_
  rw [accF_apply]
  refine Finset.sum_congr rfl fun n hn => congrArg (fun z : EReal => (w n t : EReal) * z) ?_
  have hn' := Finset.mem_range.mp hn
  have hs : (p.val + t / 3 % 3 - 1) / 32 < 4 := by omega
  show (if (p.val + t / 3 % 3 - 1) / 32 = 0 then maskRows mt (h 0 n) (rt n) else if (p.val + t / 3 % 3 - 1) / 32 = 1 then plainRows (h 1 n) else if (p.val + t / 3 % 3 - 1) / 32 = 2 then plainRows (h 2 n) else maskRows mb (h 3 n) (rb n)) _ = _
  obtain e | e | e | e : (p.val + t / 3 % 3 - 1) / 32 = 0 ∨ (p.val + t / 3 % 3 - 1) / 32 = 1 ∨ (p.val + t / 3 % 3 - 1) / 32 = 2 ∨ (p.val + t / 3 % 3 - 1) / 32 = 3 := by omega
  · rw [if_pos e, h0 n hn']; exact congrArg (fun z => hid n z _) (by show (p.val + t / 3 % 3 - 1) % 32 = _; omega)
  · rw [if_neg (by omega), if_pos e, h1 n hn']; exact congrArg (fun z => hid n z _) (by show 32 + (p.val + t / 3 % 3 - 1) % 32 = _; omega)
  · rw [if_neg (by omega), if_neg (by omega), if_pos e, h2 n hn']; exact congrArg (fun z => hid n z _) (by show 64 + (p.val + t / 3 % 3 - 1) % 32 = _; omega)
  · rw [if_neg (by omega), if_neg (by omega), if_neg (by omega), h3 n hn']; exact congrArg (fun z => hid n z _) (by show 96 + (p.val + t / 3 % 3 - 1) % 32 = _; omega)

/-- A strip inside a tile, at an index. -/
theorem plainRows_apply (h : Vec Ideal S1x32x128 .bf16) (r : Fin 32) (q : Fin 128) : plainRows h (ix2 r q) = h (ix3 0 r q) := by
  pointwise [plainRows]

/-- A strip with one row replaced, at an index. -/
theorem maskRows_apply (m : IVec S32x128 1) (h : Vec Ideal S1x32x128 .bf16) (x : Vec Ideal S1x128 .bf16) (r : Fin 32) (q : Fin 128) :
    maskRows m h x (ix2 r q) = if m (ix2 r q) = 1#1 then x (ix2 0 q) else h (ix3 0 r q) := by
  pointwise [maskRows, plainRows]
  rfl

/-- The mask of a tile's first row. -/
theorem topMask_apply (a : Fin 9) (r : Fin 32) (q : Fin 128) : k0_pay401 (BitVec.ofNat 32 a.val) (ix2 r q) = 1#1 ↔ r.val = 0 ∧ 0 < a.val := by
  have h : ∀ (a : Fin 9) (r : Fin 32), (IntOp.andi (IntOp.cmpi .eq (BitVec.ofNat 32 r.val) 0#32) (Scalar.cmpi .sgt (BitVec.ofNat 32 a.val) 0#32) = 1#1) ↔ (r.val = 0 ∧ 0 < a.val) := by decide +kernel
  have := h a r
  pointwise [k0_pay401]
  exact this

/-- The mask of a tile's last row. -/
theorem botMask_apply (a : Fin 9) (r : Fin 32) (q : Fin 128) : k0_pay402 (BitVec.ofNat 32 a.val) (ix2 r q) = 1#1 ↔ r.val = 31 ∧ a.val < 8 := by
  have h : ∀ (a : Fin 9) (r : Fin 32), (IntOp.andi (IntOp.cmpi .eq (BitVec.ofNat 32 r.val) 31#32) (Scalar.cmpi .slt (BitVec.ofNat 32 a.val) 8#32) = 1#1) ↔ (r.val = 31 ∧ a.val < 8) := by decide +kernel
  have := h a r
  pointwise [k0_pay402]
  exact this

end Cert.KernelIdeal.Body
-- ==== Proof.KernelIdeal.Conv.lean ====
module

public import proofs.«01_k».proof.Proof.KernelIdeal.Tile

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

variable {F : FTy → Type} [FloatOps F]

/-! ## The hidden strip in closed form -/

/-- The shifted images lie in the padded image. -/
theorem slices_cap (t : ℕ) : S3x386x130.Slices ![t % 3, t / 9 % 3, t / 3 % 3] S1x384x128 := by
  have h : ∀ a b c : Fin 3, S3x386x130.Slices ![a.val, b.val, c.val] S1x384x128 := by decide
  exact h ⟨t % 3, Nat.mod_lt _ (by decide)⟩ ⟨t / 9 % 3, Nat.mod_lt _ (by decide)⟩ ⟨t / 3 % 3, Nat.mod_lt _ (by decide)⟩

/-- A tap lies in the concatenated taps. -/
theorem slices_tapW (t : ℕ) : S27x384x128.Slices ![t % 27, 0, 0] S1x384x128 := by
  have h : ∀ a : Fin 27, S27x384x128.Slices ![a.val, 0, 0] S1x384x128 := by decide
  exact h ⟨t % 27, Nat.mod_lt _ (by decide)⟩

/-- The padded column of tiles shifted by the `t`-th tap. -/
def capF (X : FVec F S3x386x130 .f32) (t : ℕ) : FVec F S1x384x128 .f32 :=
  shapeCast S1x384x128 (shapeCast S384x128 (extractStridedSlice S1x384x128 ![t % 3, t / 9 % 3, t / 3 % 3] X (slices_cap t)) shapeCasts_S1x384x128_S384x128) shapeCasts_S384x128_S1x384x128

/-- The 27 shifted columns, one above the other. -/
def catF (X : FVec F S3x386x130 .f32) : FVec F S27x384x128 .f32 :=
  concatenate S27x384x128 0 [⟨S1x384x128, capF X 0⟩, ⟨S1x384x128, capF X 1⟩, ⟨S1x384x128, capF X 2⟩, ⟨S1x384x128, capF X 3⟩, ⟨S1x384x128, capF X 4⟩, ⟨S1x384x128, capF X 5⟩, ⟨S1x384x128, capF X 6⟩, ⟨S1x384x128, capF X 7⟩, ⟨S1x384x128, capF X 8⟩, ⟨S1x384x128, capF X 9⟩, ⟨S1x384x128, capF X 10⟩, ⟨S1x384x128, capF X 11⟩, ⟨S1x384x128, capF X 12⟩, ⟨S1x384x128, capF X 13⟩, ⟨S1x384x128, capF X 14⟩, ⟨S1x384x128, capF X 15⟩, ⟨S1x384x128, capF X 16⟩, ⟨S1x384x128, capF X 17⟩, ⟨S1x384x128, capF X 18⟩, ⟨S1x384x128, capF X 19⟩, ⟨S1x384x128, capF X 20⟩, ⟨S1x384x128, capF X 21⟩, ⟨S1x384x128, capF X 22⟩, ⟨S1x384x128, capF X 23⟩, ⟨S1x384x128, capF X 24⟩, ⟨S1x384x128, capF X 25⟩, ⟨S1x384x128, capF X 26⟩] concatenates_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S27x384x128_d0

/-- The column of tiles a grid point reads. -/
def ldX (i : grid0.Coords) (hc1 : k0_cond2 i = 1#1) (arg2 : Memref sig .tc .vmem S4x3x384x384 .bf16) (harg2 : arg2.IsWhole) (x2 : Vec F S4x3x384x384 .bf16) : Vec F S1x3x384x128 .bf16 :=
  View.readAt (Elt F) arg2.view (Rect.unit (s := S4x3x384x384) (k0_off1 i) S1x3x384x128.size (k0_off1_inb i hc1)).toLoadRect (harg2.unread x2)

set_option maxHeartbeats 0 in
set_option maxRecDepth 1000000 in
/-- The 27 shifted columns are those of the column of tiles the grid point reads. -/
theorem convW_val (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec F S4x3x384x384 .bf16) (x3 : Vec F S32x3x3x3 .f32) (x4 : Vec F S32 .f32)
    (x11 : Vec F S4x384x384 .f32) (x12 : Vec F S32x384x128 .bf16) (hc1 : k0_cond2 i = 1#1) :
    convW c i arg2 harg2 arg3 harg3 arg4 harg4 arg5 harg5 arg6 harg6 arg7 harg7 arg8 harg8 arg9 harg9 arg10 harg10 arg11 harg11 arg12 harg12 arg13 harg13 arg14 harg14 x2 x3 x4 x11 x12 hc1 = catF (k0_pay31 (ldX i hc1 arg2 harg2 x2)) := by
  unfold convW part7_conv
  sl_kernel_rfl

/-- Where a weight of the first convolution lies. -/
def offW (k : Fin k0_t1_loop.trips) (t : ℕ) : Fin 4 → ℕ :=
  ![(Scalar.indexCast (Scf.iv 0#32 1#32 k)).toNat, t % 3, t / 9 % 3, t / 3 % 3]

/-- The loop's trip is its channel. -/
theorem chan_eq (k : Fin k0_t1_loop.trips) : (Scalar.indexCast (Scf.iv 0#32 1#32 k)).toNat = k.val :=
  congrFun (k0_off30_eq k) 0

/-- Where a trip reads its weight. -/
theorem offW_eq (k : Fin k0_t1_loop.trips) (t : ℕ) : offW k t = ![k.val, t % 3, t / 9 % 3, t / 3 % 3] := by
  unfold offW
  rw [chan_eq]

/-- A trip reads its weight inside the weights. -/
theorem inb_w1 (k : Fin k0_t1_loop.trips) (t : ℕ) : ∀ a, offW k t a + S1x1x1x1.size a ≤ S32x3x3x3.size a := by
  have h1 := Nat.mod_lt t (show 0 < 3 by decide)
  have h2 := Nat.mod_lt (t / 9) (show 0 < 3 by decide)
  have h3 := Nat.mod_lt (t / 3) (show 0 < 3 by decide)
  have h4 : k.val < 32 := k.isLt.trans_eq trips_eq
  intro a
  rw [offW_eq]
  match a with
  | ⟨0, _⟩ => exact (show k.val + 1 ≤ 32 by omega)
  | ⟨1, _⟩ => exact (show t % 3 + 1 ≤ 3 by omega)
  | ⟨2, _⟩ => exact (show t / 9 % 3 + 1 ≤ 3 by omega)
  | ⟨3, _⟩ => exact (show t / 3 % 3 + 1 ≤ 3 by omega)

/-- A weight of the first convolution, loaded. -/
def ldW1 (arg3 : Memref sig .tc .smem S32x3x3x3 .f32) (X3 : arg3.view.ty.Contents (Elt F)) (k : Fin k0_t1_loop.trips) (t : ℕ) : F .f32 :=
  View.readAt (Elt F) arg3.view (Rect.unit (s := S32x3x3x3) (offW k t) S1x1x1x1.size (inb_w1 k t)).toLoadRect X3 (Shape.Idx.first (show 0 < S1x1x1x1.numel by decide))

/-- A trip reads its bias inside the bias. -/
theorem inb_b1 (k : Fin k0_t1_loop.trips) : ∀ a, k0_off29 k a + S1.size a ≤ S32.size a := by
  have h4 : k.val < 32 := k.isLt.trans_eq trips_eq
  intro a
  match a with
  | ⟨0, _⟩ => exact (show (Scalar.indexCast (Scf.iv 0#32 1#32 k)).toNat + 1 ≤ 32 by rw [chan_eq]; omega)

/-- A bias of the first convolution, loaded. -/
def ldB1 (arg4 : Memref sig .tc .smem S32 .f32) (X4 : arg4.view.ty.Contents (Elt F)) (k : Fin k0_t1_loop.trips) : F .f32 :=
  View.readAt (Elt F) arg4.view (Rect.unit (s := S32) (k0_off29 k) S1.size (inb_b1 k)).toLoadRect X4 (Shape.Idx.first (show 0 < S1.numel by decide))

/-- A channel of the strip, from its weights, its bias and the shifted columns. -/
def chanF (w : ℕ → F .f32) (b : F .f32) (X : FVec F S27x384x128 .f32) : FVec F S1x384x128 .bf16 :=
  shapeCast S1x384x128 (truncf .bf16 (maximumf (addf (red27 fun t => mulf (broadcast S384x128 (w t)) (shapeCast S384x128 (extractStridedSlice S1x384x128 ![t % 27, 0, 0] X (slices_tapW t)) shapeCasts_S1x384x128_S384x128)) (broadcast S384x128 b)) (zeroV S384x128)) bitsLt_bf16_f32) shapeCasts_S384x128_S1x384x128

set_option maxHeartbeats 0 in
set_option maxRecDepth 1000000 in
/-- What a trip stores. -/
theorem tripPay_val (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (hc1 : k0_cond2 i = 1#1) (w : FVec F S27x384x128 .f32)
    (X3 : arg3.view.ty.Contents (Elt F)) (X4 : arg4.view.ty.Contents (Elt F)) (k : Fin k0_t1_loop.trips) :
    (tripPay c i arg2 harg2 arg3 harg3 arg4 harg4 arg5 harg5 arg6 harg6 arg7 harg7 arg8 harg8 arg9 harg9 arg10 harg10 arg11 harg11 arg12 harg12 arg13 harg13 arg14 harg14 hc1 w X3 X4 k).val = chanF (ldW1 arg3 X3 k) (ldB1 arg4 X4 k) w := by
  unfold tripPay
  sl_kernel_rfl

end Cert.KernelIdeal.Body
-- ==== Proof.KernelIdeal.Hidden.lean ====
module

public import proofs.«01_k».proof.Proof.KernelIdeal.Conv
public import Idealize.ShloMosaic.Lib.Pipeline.ReadBack
public import Idealize.ShloMosaic.Lib.Pipeline.ValueKit.Tiles

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## Where the loads lie -/

/-- The grid point of a column and a row of tiles. -/
def mkI (a b : Fin 9) : grid0.Coords := fun d => match d with
  | ⟨0, _⟩ => a
  | ⟨1, _⟩ => b

/-- A grid point is its two coordinates. -/
theorem eq_mkI (i : grid0.Coords) : i = mkI (i 0) (i 1) := by
  funext d
  match d with
  | ⟨0, _⟩ => rfl
  | ⟨1, _⟩ => rfl

/-- Where the column of the image is read. -/
theorem off1_eq (i : grid0.Coords) : k0_off1 i = ![(i 0).val % 4, 0, 0, 128 * ((i 0).val / 4)] := by
  have h : ∀ a b : Fin 9, k0_off1 (mkI a b) = ![a.val % 4, 0, 0, 128 * (a.val / 4)] := by decide +kernel
  rw [eq_mkI i]
  exact h (i 0) (i 1)

/-- Where a tile's top rows are read. -/
theorem off31_eq (i : grid0.Coords) : k0_off31 i = ![(i 0).val % 4, 0, 32 * (i 1).val, 128 * ((i 0).val / 4)] := by
  have h : ∀ a b : Fin 9, k0_off31 (mkI a b) = ![a.val % 4, 0, 32 * b.val, 128 * (a.val / 4)] := by decide +kernel
  rw [eq_mkI i]
  exact h (i 0) (i 1)

/-- Where a tile's bottom rows are read. -/
theorem off32_eq (i : grid0.Coords) : k0_off32 i = ![(i 0).val % 4, 0, 32 * (i 1).val + 120, 128 * ((i 0).val / 4)] := by
  have h : ∀ a b : Fin 9, k0_off32 (mkI a b) = ![a.val % 4, 0, 32 * b.val + 120, 128 * (a.val / 4)] := by decide +kernel
  rw [eq_mkI i]
  exact h (i 0) (i 1)

/-- Where the tile is accumulated. -/
theorem off65_eq (i : grid0.Coords) : k0_off65 i = ![(i 0).val % 4, 32 * (i 1).val, 128 * ((i 0).val / 4)] := by
  have h : ∀ a b : Fin 9, k0_off65 (mkI a b) = ![a.val % 4, 32 * b.val, 128 * (a.val / 4)] := by decide +kernel
  rw [eq_mkI i]
  exact h (i 0) (i 1)

/-! ## Arrays read at numbers -/

/-- The four shifted images at copy, channel, row, column. -/
def rdX (x : Vec Ideal S4x3x384x384 .bf16) (k ci r c : ℕ) : EReal :=
  x (ix4 ⟨k % 4, Nat.mod_lt _ (by decide)⟩ ⟨ci % 3, Nat.mod_lt _ (by decide)⟩ ⟨r % 384, Nat.mod_lt _ (by decide)⟩ ⟨c % 384, Nat.mod_lt _ (by decide)⟩)

/-- The first weights at channel and tap. -/
def rdW1 (x : Vec Ideal S32x3x3x3 .f32) (n t : ℕ) : EReal :=
  x (ix4 ⟨n % 32, Nat.mod_lt _ (by decide)⟩ ⟨t % 3, Nat.mod_lt _ (by decide)⟩ ⟨t / 9 % 3, Nat.mod_lt _ (by decide)⟩ ⟨t / 3 % 3, Nat.mod_lt _ (by decide)⟩)

/-- The first bias at a channel. -/
def rdB1 (x : Vec Ideal S32 .f32) (n : ℕ) : EReal := x (ix1 ⟨n % 32, Nat.mod_lt _ (by decide)⟩)

/-- The second weights at output, channel and tap. -/
def rdW2 (x : Vec Ideal S2x32x3x3 .f32) (o n t : ℕ) : EReal :=
  x (ix4 ⟨o % 2, Nat.mod_lt _ (by decide)⟩ ⟨n % 32, Nat.mod_lt _ (by decide)⟩ ⟨t / 3 % 3, Nat.mod_lt _ (by decide)⟩ ⟨t % 3, Nat.mod_lt _ (by decide)⟩)

/-- The first convolution, its bias and the cut at zero, at channel `n`, row `r`, column `q` of an image 128 columns wide of
which rows `lo` to `hi - 1` are seen. -/
def hidS (W : ℕ → ℕ → EReal) (b : ℕ → EReal) (X : ℕ → ℕ → ℕ → EReal) (lo hi n r q : ℕ) : EReal :=
  max ((∑ t ∈ Finset.range 27, W n t * (if lo + 1 ≤ r + t / 9 ∧ r + t / 9 ≤ hi ∧ 1 ≤ q + t / 3 % 3 ∧ q + t / 3 % 3 ≤ 128 then X (t % 3) (r + t / 9 - 1) (q + t / 3 % 3 - 1) else 0)) + b n) 0

/-! ## The loads at an index -/

/-- Indices of four axes are equal when their coordinates are. -/
theorem idx4_ext {d : Fin 4 → Nat} {x y : (⟨4, d⟩ : Shape).Idx} (h0 : (x 0).val = (y 0).val) (h1 : (x 1).val = (y 1).val) (h2 : (x 2).val = (y 2).val) (h3 : (x 3).val = (y 3).val) : x = y :=
  funext fun a => by
    match a with
    | ⟨0, _⟩ => exact Fin.ext h0
    | ⟨1, _⟩ => exact Fin.ext h1
    | ⟨2, _⟩ => exact Fin.ext h2
    | ⟨3, _⟩ => exact Fin.ext h3

/-- A unit-stride load's index: the offset plus the index. -/
theorem idx_at {s : Shape} (off size : Fin s.rank → ℕ) (inb : ∀ a, off a + size a ≤ s.size a) (x : (Rect.unit off size inb).shape.Idx) (a : Fin s.rank) (o : ℕ) (ho : off a = o) :
    ((Rect.unit off size inb).toLoadRect.idx x a).val = o + (x a).val :=
  (Rect.idx_unit_val off size inb x a).trans (congrArg (fun z => z + (x a).val) ho)

/-- The column of the image that is read, at an index. -/
theorem ldX_apply (i : grid0.Coords) (hc1 : k0_cond2 i = 1#1) (arg2 : Memref sig .tc .vmem S4x3x384x384 .bf16) (harg2 : arg2.IsWhole) (x2 : Vec Ideal S4x3x384x384 .bf16) (ci : Fin 3) (r : Fin 384) (q : Fin 128) :
    ldX i hc1 arg2 harg2 x2 (ix4 0 ci r q) = rdX x2 ((i 0).val % 4) ci.val r.val (128 * ((i 0).val / 4) + q.val) := by
  have hi : (i 0).val < 9 := (i 0).isLt
  unfold ldX
  refine (harg2.readAt_unread x2 _ _).trans (congrArg x2 (idx4_ext ?_ ?_ ?_ ?_))
  · refine (idx_at _ _ _ _ 0 _ (congrFun (off1_eq i) 0)).trans ?_
    show (i 0).val % 4 + 0 = (i 0).val % 4 % 4; omega
  · refine (idx_at _ _ _ _ 1 _ (congrFun (off1_eq i) 1)).trans ?_
    show 0 + ci.val = ci.val % 3; omega
  · refine (idx_at _ _ _ _ 2 _ (congrFun (off1_eq i) 2)).trans ?_
    show 0 + r.val = r.val % 384; omega
  · refine (idx_at _ _ _ _ 3 _ (congrFun (off1_eq i) 3)).trans ?_
    show 128 * ((i 0).val / 4) + q.val = (128 * ((i 0).val / 4) + q.val) % 384; omega

/-- The rows read at a tile's top, at an index. -/
theorem ldTop_apply (i : grid0.Coords) (arg2 : Memref sig .tc .vmem S4x3x384x384 .bf16) (harg2 : arg2.IsWhole) (x2 : Vec Ideal S4x3x384x384 .bf16) (ci : Fin 3) (r : Fin 2) (q : Fin 128) :
    View.readAt (Elt Ideal) arg2.view (Rect.unit (s := S4x3x384x384) (k0_off31 i) S1x3x2x128.size (k0_off31_inb i)).toLoadRect (harg2.unread x2) (ix4 0 ci r q)
      = rdX x2 ((i 0).val % 4) ci.val (32 * (i 1).val + r.val) (128 * ((i 0).val / 4) + q.val) := by
  have hi : (i 0).val < 9 := (i 0).isLt
  have hi1 : (i 1).val < 9 := (i 1).isLt
  refine (harg2.readAt_unread x2 _ _).trans (congrArg x2 (idx4_ext ?_ ?_ ?_ ?_))
  · refine (idx_at _ _ _ _ 0 _ (congrFun (off31_eq i) 0)).trans ?_
    show (i 0).val % 4 + 0 = (i 0).val % 4 % 4; omega
  · refine (idx_at _ _ _ _ 1 _ (congrFun (off31_eq i) 1)).trans ?_
    show 0 + ci.val = ci.val % 3; omega
  · refine (idx_at _ _ _ _ 2 _ (congrFun (off31_eq i) 2)).trans ?_
    show 32 * (i 1).val + r.val = (32 * (i 1).val + r.val) % 384; omega
  · refine (idx_at _ _ _ _ 3 _ (congrFun (off31_eq i) 3)).trans ?_
    show 128 * ((i 0).val / 4) + q.val = (128 * ((i 0).val / 4) + q.val) % 384; omega

/-- The rows read at a tile's bottom, at an index. -/
theorem ldBot8_apply (i : grid0.Coords) (arg2 : Memref sig .tc .vmem S4x3x384x384 .bf16) (harg2 : arg2.IsWhole) (x2 : Vec Ideal S4x3x384x384 .bf16) (ci : Fin 3) (r : Fin 8) (q : Fin 128) :
    View.readAt (Elt Ideal) arg2.view (Rect.unit (s := S4x3x384x384) (k0_off32 i) S1x3x8x128.size (k0_off32_inb i)).toLoadRect (harg2.unread x2) (ix4 0 ci r q)
      = rdX x2 ((i 0).val % 4) ci.val (32 * (i 1).val + 120 + r.val) (128 * ((i 0).val / 4) + q.val) := by
  have hi : (i 0).val < 9 := (i 0).isLt
  have hi1 : (i 1).val < 9 := (i 1).isLt
  refine (harg2.readAt_unread x2 _ _).trans (congrArg x2 (idx4_ext ?_ ?_ ?_ ?_))
  · refine (idx_at _ _ _ _ 0 _ (congrFun (off32_eq i) 0)).trans ?_
    show (i 0).val % 4 + 0 = (i 0).val % 4 % 4; omega
  · refine (idx_at _ _ _ _ 1 _ (congrFun (off32_eq i) 1)).trans ?_
    show 0 + ci.val = ci.val % 3; omega
  · refine (idx_at _ _ _ _ 2 _ (congrFun (off32_eq i) 2)).trans ?_
    show 32 * (i 1).val + 120 + r.val = (32 * (i 1).val + 120 + r.val) % 384; omega
  · refine (idx_at _ _ _ _ 3 _ (congrFun (off32_eq i) 3)).trans ?_
    show 128 * ((i 0).val / 4) + q.val = (128 * ((i 0).val / 4) + q.val) % 384; omega

/-- The first weight read, as a number. -/
theorem ldW1_apply (arg3 : Memref sig .tc .smem S32x3x3x3 .f32) (harg3 : arg3.IsWhole) (x3 : Vec Ideal S32x3x3x3 .f32) (k : Fin k0_t1_loop.trips) (t : ℕ) :
    ldW1 arg3 (harg3.unread x3) k t = rdW1 x3 k.val t := by
  have h4 : k.val < 32 := k.isLt.trans_eq trips_eq
  unfold ldW1
  refine (harg3.readAt_unread x3 _ _).trans (congrArg x3 (idx4_ext ?_ ?_ ?_ ?_))
  · refine (idx_at _ _ _ _ 0 _ (congrFun (offW_eq k t) 0)).trans ?_
    show k.val + 0 = k.val % 32; omega
  · refine (idx_at _ _ _ _ 1 _ (congrFun (offW_eq k t) 1)).trans ?_
    rfl
  · refine (idx_at _ _ _ _ 2 _ (congrFun (offW_eq k t) 2)).trans ?_
    rfl
  · refine (idx_at _ _ _ _ 3 _ (congrFun (offW_eq k t) 3)).trans ?_
    rfl

/-- The first bias read, as a number. -/
theorem ldB1_apply (arg4 : Memref sig .tc .smem S32 .f32) (harg4 : arg4.IsWhole) (x4 : Vec Ideal S32 .f32) (k : Fin k0_t1_loop.trips) :
    ldB1 arg4 (harg4.unread x4) k = rdB1 x4 k.val := by
  have h4 : k.val < 32 := k.isLt.trans_eq trips_eq
  unfold ldB1
  refine (harg4.readAt_unread x4 _ _).trans (congrArg x4 (Shape.idx1_ext ?_))
  refine (Rect.idx_unit_val _ _ _ _ _).trans ?_
  show (Scalar.indexCast (Scf.iv 0#32 1#32 k)).toNat + 0 = k.val % 32
  rw [chan_eq]; omega

/-- The second weight read, as a number. -/
theorem ldW2_apply (arg5 : Memref sig .tc .smem S2x32x3x3 .f32) (harg5 : arg5.IsWhole) (x5 : Vec Ideal S2x32x3x3 .f32) (o n t : ℕ) :
    ldW2 arg5 harg5 x5 o n t = rdW2 x5 o n t := by
  unfold ldW2
  refine (harg5.readAt_unread x5 _ _).trans (congrArg x5 (idx4_ext ?_ ?_ ?_ ?_)) <;> exact (Rect.idx_unit_val _ _ _ _ _).trans rfl

/-- The second bias read, as a number. -/
theorem ldB2_apply (arg6 : Memref sig .tc .smem S2 .f32) (harg6 : arg6.IsWhole) (x6 : Vec Ideal S2 .f32) :
    ldB2 arg6 harg6 x6 = (x6 (ix1 1) : EReal) - x6 (ix1 0) := by
  unfold ldB2
  have e1 := (harg6.readAt_unread x6 (Rect.unit (s := S2) ![1] S1.size inb_S2_S1_1).toLoadRect (Shape.Idx.first (show 0 < S1.numel by decide))).trans (congrArg x6 (show _ = ix1 1 from Shape.idx1_ext rfl))
  have e0 := (harg6.readAt_unread x6 (Rect.unit (s := S2) ![0] S1.size inb_S2_S1_0).toLoadRect (Shape.Idx.first (show 0 < S1.numel by decide))).trans (congrArg x6 (show _ = ix1 0 from Shape.idx1_ext rfl))
  exact congr (congrArg (fun a b : EReal => a - b) e1) e0

/-- The strip of hidden values read, at an index. -/
theorem ldH_apply (i : grid0.Coords) (arg12 : Memref sig .tc .vmem S32x384x128 .bf16) (harg12 : arg12.IsWhole) (x12 : Vec Ideal S32x384x128 .bf16) (s n : ℕ) (r : Fin 32) (q : Fin 128) :
    ldH i arg12 harg12 x12 s n (ix3 0 r q) = x12 (ix3 ⟨n % 32, Nat.mod_lt _ (by decide)⟩ ⟨32 * (i 1).val + 32 * (s % 4) + r.val, by have : (i 1).val < 9 := (i 1).isLt; omega⟩ q) := by
  unfold ldH
  refine (harg12.readAt_unread x12 _ _).trans (congrArg x12 (Shape.idx3_ext ?_ ?_ ?_))
  · refine (idx_at _ _ _ _ 0 _ (congrFun (offH_eq i s n) 0)).trans ?_
    rfl
  · refine (idx_at _ _ _ _ 1 _ (congrFun (offH_eq i s n) 1)).trans ?_
    rfl
  · refine (idx_at _ _ _ _ 2 _ (congrFun (offH_eq i s n) 2)).trans ?_
    exact Nat.zero_add _

/-- The column of weights read, at an index. -/
theorem ldCol_apply (arg7 : Memref sig .tc .vmem S32x27 .f32) (harg7 : arg7.IsWhole) (x7 : Vec Ideal S32x27 .f32) (t : ℕ) (n : Fin 32) :
    ldCol arg7 harg7 x7 t (ix2 n 0) = x7 (ix2 n ⟨t % 27, Nat.mod_lt _ (by decide)⟩) := by
  unfold ldCol
  refine (harg7.readAt_unread x7 _ _).trans (congrArg x7 (idx2_ext ?_ ?_))
  · exact (Rect.idx_unit_val _ _ _ _ _).trans (Nat.zero_add _)
  · exact (Rect.idx_unit_val _ _ _ _ _).trans rfl

/-- The column of biases read, at an index. -/
theorem ldBias_apply (arg8 : Memref sig .tc .vmem S32x1 .f32) (harg8 : arg8.IsWhole) (x8 : Vec Ideal S32x1 .f32) (n : Fin 32) :
    ldBias arg8 harg8 x8 (ix2 n 0) = x8 (ix2 n 0) := by
  unfold ldBias
  refine (harg8.readAt_unread x8 _ _).trans (congrArg x8 (idx2_ext ?_ ?_))
  · exact (Rect.idx_unit_val _ _ _ _ _).trans (Nat.zero_add _)
  · exact (Rect.idx_unit_val _ _ _ _ _).trans rfl

/-- The border row read back. -/
theorem ldRow_apply {F : FTy → Type} [FloatOps F] (arg13 : Memref sig .tc .vmem S32x128 .bf16) (x : FVec F S32x128 .bf16) (n : ℕ) (q : Fin 128) :
    ldRow arg13 x n (ix2 0 q) = x (ix2 ⟨n % 32, Nat.mod_lt _ (by decide)⟩ q) := by
  unfold ldRow View.readCov
  rw [View.readAt_apply]
  have e : arg13.view.read (Elt F) (arg13.view.writes (Elt F) arg13.view.junk [⟨Rect.unit (s := S32x128) ![0, 0] S32x128.size inb_S32x128_S32x128_0_0, x⟩]) = x :=
    View.read_writes_full (Val := Elt F) (e := .bf16) arg13.view arg13.view.junk (off := ![0, 0]) inb_S32x128_S32x128_0_0 (show S32x128.Idx → Elt F .bf16 from x) []
  refine (congrFun e _).trans (congrArg x (idx2_ext ?_ ?_))
  · exact (idx_at _ _ _ _ 0 (n % 32) rfl).trans rfl
  · exact (idx_at _ _ _ _ 1 0 rfl).trans (Nat.zero_add _)

end Cert.KernelIdeal.Body
-- ==== Proof.KernelIdeal.Rows.lean ====
module

public import proofs.«01_k».proof.Proof.KernelIdeal.Hidden

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## The hidden strip and the border rows at an index -/

/-- The word zero converts to zero. -/
theorem zeroPad : ((((0#32 : BitVec 32).toInt : ℤ) : ℝ) : EReal) = 0 := by simp

/-- The padded column at an index. -/
theorem padCol_apply (v : Vec Ideal S1x3x384x128 .bf16) (X : ℕ → ℕ → ℕ → EReal) (hX : ∀ (ci : Fin 3) (r : Fin 384) (q : Fin 128), v (ix4 0 ci r q) = X ci.val r.val q.val)
    (ci : Fin 3) (a : Fin 386) (b : Fin 130) :
    k0_pay31 v (ix3 ci a b) = if 1 ≤ a.val ∧ a.val ≤ 384 ∧ 1 ≤ b.val ∧ b.val ≤ 128 then X ci.val (a.val - 1) (b.val - 1) else 0 := by
  have ha := a.isLt
  have hb := b.isLt
  pointwise [k0_pay31, hX]
  simp only [zeroPad]
  split_ifs <;> first
    | rfl
    | (exfalso; omega)
    | exact Eq.symm (if_pos (by omega))
    | exact Eq.symm (if_neg (by omega))

/-- A shifted image at an index. -/
theorem capF_apply (X : FVec Ideal S3x386x130 .f32) (t : ℕ) (r : Fin 384) (q : Fin 128) :
    capF X t (ix3 0 r q) = X (ix3 ⟨t % 3, Nat.mod_lt _ (by decide)⟩ ⟨r.val + t / 9 % 3, by omega⟩ ⟨q.val + t / 3 % 3, by omega⟩) := by
  unfold capF
  pointwise []
  refine congrArg X (Shape.idx3_ext ?_ ?_ ?_)
  · rfl
  · exact Nat.add_comm _ _
  · exact Nat.add_comm _ _

/-- The concatenated shifted images at an index. -/
theorem catF_apply (X : FVec Ideal S3x386x130 .f32) (t : Fin 27) (r : Fin 384) (q : Fin 128) :
    catF X (ix3 t r q) = capF X t.val (ix3 0 r q) := by
  have hl : (List.ofFn fun n : Fin 27 => (⟨S1x384x128, capF X n.val⟩ : (s : Shape) × (s.Idx → Ideal .f32)))
      = [⟨S1x384x128, capF X 0⟩, ⟨S1x384x128, capF X 1⟩, ⟨S1x384x128, capF X 2⟩, ⟨S1x384x128, capF X 3⟩, ⟨S1x384x128, capF X 4⟩, ⟨S1x384x128, capF X 5⟩, ⟨S1x384x128, capF X 6⟩, ⟨S1x384x128, capF X 7⟩, ⟨S1x384x128, capF X 8⟩, ⟨S1x384x128, capF X 9⟩, ⟨S1x384x128, capF X 10⟩, ⟨S1x384x128, capF X 11⟩, ⟨S1x384x128, capF X 12⟩, ⟨S1x384x128, capF X 13⟩, ⟨S1x384x128, capF X 14⟩, ⟨S1x384x128, capF X 15⟩, ⟨S1x384x128, capF X 16⟩, ⟨S1x384x128, capF X 17⟩, ⟨S1x384x128, capF X 18⟩, ⟨S1x384x128, capF X 19⟩, ⟨S1x384x128, capF X 20⟩, ⟨S1x384x128, capF X 21⟩, ⟨S1x384x128, capF X 22⟩, ⟨S1x384x128, capF X 23⟩, ⟨S1x384x128, capF X 24⟩, ⟨S1x384x128, capF X 25⟩, ⟨S1x384x128, capF X 26⟩] := by
    simp only [List.ofFn_succ, List.ofFn_zero]
    rfl
  have hc : Shape.Concatenates ((List.ofFn fun n : Fin 27 => (⟨S1x384x128, capF X n.val⟩ : (s : Shape) × (s.Idx → Ideal .f32))).map (·.1)) S27x384x128 0 := by
    rw [hl]; exact concatenates_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S1x384x128_S27x384x128_d0
  have e : catF X = concatenate S27x384x128 0 (List.ofFn fun n : Fin 27 => (⟨S1x384x128, capF X n.val⟩ : (s : Shape) × (s.Idx → Ideal .f32))) hc := by
    unfold catF
    congr 1
  rw [e]
  refine (concatenate_ofFn_unit_apply' (0 : Fin S27x384x128.rank) (fun n : Fin 27 => capF X n.val) hc rfl (ix3 t r q)).trans ?_
  refine congrArg (capF X t.val) (Shape.idx3_ext ?_ ?_ ?_) <;> rfl

/-- A channel of the first convolution at an index. -/
theorem chanF_apply (w : ℕ → Ideal .f32) (b : Ideal .f32) (Y : FVec Ideal S27x384x128 .f32) (r : Fin 384) (q : Fin 128) :
    chanF w b Y (ix3 0 r q) = max ((∑ t ∈ Finset.range 27, (w t : EReal) * (Y (ix3 ⟨t % 27, Nat.mod_lt _ (by decide)⟩ r q) : EReal)) + (b : EReal)) 0 := by
  unfold chanF
  have e : ∀ t, (mulf (broadcast S384x128 (w t)) (shapeCast S384x128 (extractStridedSlice S1x384x128 ![t % 27, 0, 0] Y (slices_tapW t)) shapeCasts_S1x384x128_S384x128)) (ix2 r q)
      = (w t : EReal) * (Y (ix3 ⟨t % 27, Nat.mod_lt _ (by decide)⟩ r q) : EReal) := by
    intro t
    pointwise []
  pointwise [zeroV]
  rw [red27_apply]
  simp only [e]

/-- The images' channels as the grid point's column of tiles sees them. -/
def colX (x2 : Vec Ideal S4x3x384x384 .bf16) (j : ℕ) (ci r q : ℕ) : EReal := rdX x2 (j % 4) ci r (128 * (j / 4) + q)

/-- The hidden strip a grid point of the first row of tiles computes, at an index. -/
theorem hs1_val (c : Dev nD) (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole) (x2 : Vec Ideal S4x3x384x384 .bf16) (x3 : Vec Ideal S32x3x3x3 .f32) (x4 : Vec Ideal S32 .f32)
    (x11 : Vec Ideal S4x384x384 .f32) (x12 : Vec Ideal S32x384x128 .bf16) (hc1 : k0_cond2 i = 1#1) (n : Fin 32) (r : Fin 384) (q : Fin 128) :
    hs1 c i arg2 harg2 arg3 harg3 arg4 harg4 arg5 harg5 arg6 harg6 arg7 harg7 arg8 harg8 arg9 harg9 arg10 harg10 arg11 harg11 arg12 harg12 arg13 harg13 arg14 harg14 x2 x3 x4 x11 x12 (ix3 n r q) = hidS (rdW1 x3) (rdB1 x4) (colX x2 (i 0).val) 0 384 n.val r.val q.val := by
  have hr := r.isLt
  have hq := q.isLt
  unfold hs1
  rw [dif_pos hc1, read_strip]
  show (tripPay c i arg2 harg2 arg3 harg3 arg4 harg4 arg5 harg5 arg6 harg6 arg7 harg7 arg8 harg8 arg9 harg9 arg10 harg10 arg11 harg11 arg12 harg12 arg13 harg13 arg14 harg14 hc1 _ (harg3.unread x3) (harg4.unread x4) (n.cast trips_eq.symm)).val (ix3 0 r q) = _
  rw [tripPay_val, chanF_apply, convW_val]
  unfold hidS
  rw [ldB1_apply]
  refine congrArg (fun z : EReal => max (z + rdB1 x4 n.val) 0) (Finset.sum_congr rfl fun t ht => ?_)
  have ht' := Finset.mem_range.mp ht
  rw [ldW1_apply, catF_apply, capF_apply, padCol_apply _ (colX x2 (i 0).val) (fun ci r q => ldX_apply i hc1 arg2 harg2 x2 ci r q)]
  refine congrArg (fun z : EReal => rdW1 x3 n.val t * z) ?_
  have e1 : t % 27 = t := Nat.mod_eq_of_lt ht'
  have e2 : t / 9 % 3 = t / 9 := by omega
  simp only [e1, e2]

/-- One of two rows, at an index. -/
theorem rowF_apply (X : FVec Ideal S3x2x130 .f32) (k : ℕ) (ci : Fin 3) (b : Fin 130) :
    rowF X k (ix2 ci b) = X (ix3 ci ⟨k % 2, Nat.mod_lt _ (by decide)⟩ b) := by
  unfold rowF
  pointwise []

/-- A product for a border row, at an index. -/
theorem ringProd_apply (col : Vec Ideal S32x1 .f32) (row : FVec Ideal S3x130 .f32) (t : ℕ) (n : Fin 32) (q : Fin 128) :
    ringProd col row t (ix2 n q) = (col (ix2 n 0) : EReal) * (row (ix2 ⟨t % 3, Nat.mod_lt _ (by decide)⟩ ⟨q.val + t / 3 % 3, by omega⟩) : EReal) := by
  unfold ringProd
  pointwise []
  refine congrArg (fun z : EReal => (col (ix2 n 0) : EReal) * z) (congrArg row (idx2_ext ?_ ?_))
  · rfl
  · exact Nat.add_comm _ _

/-- A border row of hidden values from its products, at an index. -/
theorem ringEnd_apply (p : ℕ → FVec Ideal S32x128 .f32) (bias : Vec Ideal S32x1 .f32) (n : Fin 32) (q : Fin 128) :
    ringEnd p bias (ix2 n q) = max ((∑ t ∈ Finset.range 27, (p t (ix2 n q) : EReal)) + (bias (ix2 n 0) : EReal)) 0 := by
  unfold ringEnd
  pointwise [zeroV]
  rw [red27_apply]

/-- The row at a tile's top border is the hidden row there. -/
theorem topRow_apply (X : FVec Ideal S3x2x130 .f32) (col : ℕ → Vec Ideal S32x1 .f32) (bias : Vec Ideal S32x1 .f32)
    (W : ℕ → ℕ → EReal) (b : ℕ → EReal) (Xf : ℕ → ℕ → ℕ → EReal) (lo hi : ℕ) (hlo : lo + 2 ≤ hi)
    (hX : ∀ (ci : Fin 3) (a : Fin 2) (b : Fin 130), X (ix3 ci a b) = if 1 ≤ b.val ∧ b.val ≤ 128 then Xf ci.val (lo + a.val) (b.val - 1) else 0)
    (hW : ∀ (n : Fin 32) (t : ℕ), t < 27 → col t (ix2 n 0) = W n.val t) (hb : ∀ n : Fin 32, bias (ix2 n 0) = b n.val) (n : Fin 32) (q : Fin 128) :
    topRow X col bias (ix2 n q) = hidS W b Xf lo hi n.val lo q.val := by
  unfold topRow hidS
  rw [ringEnd_apply, hb]
  refine congrArg (fun z : EReal => max (z + b n.val) 0) (Finset.sum_congr rfl fun t ht => ?_)
  have ht' := Finset.mem_range.mp ht
  by_cases h9 : t < 9
  · rw [if_pos h9, zeroV_apply, if_neg (by omega), mul_zero]
  · rw [if_neg h9, ringProd_apply, rowF_apply, hX, hW n t ht']
    refine congrArg (fun z : EReal => W n.val t * z) ?_
    have e : lo + (t / 9 - 1) % 2 = lo + t / 9 - 1 := by omega
    show (if 1 ≤ q.val + t / 3 % 3 ∧ q.val + t / 3 % 3 ≤ 128 then Xf (t % 3) (lo + (t / 9 - 1) % 2) (q.val + t / 3 % 3 - 1) else 0) = _
    rw [e]
    split_ifs <;> first | rfl | (exfalso; omega)

/-- The row at a tile's bottom border is the hidden row there. -/
theorem botRow_apply (X : FVec Ideal S3x2x130 .f32) (col : ℕ → Vec Ideal S32x1 .f32) (bias : Vec Ideal S32x1 .f32)
    (W : ℕ → ℕ → EReal) (b : ℕ → EReal) (Xf : ℕ → ℕ → ℕ → EReal) (lo hi : ℕ) (hlo : lo + 2 ≤ hi)
    (hX : ∀ (ci : Fin 3) (a : Fin 2) (b : Fin 130), X (ix3 ci a b) = if 1 ≤ b.val ∧ b.val ≤ 128 then Xf ci.val (hi - 2 + a.val) (b.val - 1) else 0)
    (hW : ∀ (n : Fin 32) (t : ℕ), t < 27 → col t (ix2 n 0) = W n.val t) (hb : ∀ n : Fin 32, bias (ix2 n 0) = b n.val) (n : Fin 32) (q : Fin 128) :
    botRow X col bias (ix2 n q) = hidS W b Xf lo hi n.val (hi - 1) q.val := by
  unfold botRow hidS
  rw [ringEnd_apply, hb]
  refine congrArg (fun z : EReal => max (z + b n.val) 0) (Finset.sum_congr rfl fun t ht => ?_)
  have ht' := Finset.mem_range.mp ht
  by_cases h9 : t < 18
  · rw [if_pos h9, ringProd_apply, rowF_apply, hX, hW n t ht']
    refine congrArg (fun z : EReal => W n.val t * z) ?_
    have e : hi - 2 + t / 9 % 2 = hi - 1 + t / 9 - 1 := by omega
    show (if 1 ≤ q.val + t / 3 % 3 ∧ q.val + t / 3 % 3 ≤ 128 then Xf (t % 3) (hi - 2 + t / 9 % 2) (q.val + t / 3 % 3 - 1) else 0) = _
    rw [e]
    split_ifs <;> first | rfl | (exfalso; omega)
  · rw [if_neg h9, zeroV_apply, if_neg (by omega), mul_zero]

/-- The padded rows at a tile's top, at an index. -/
theorem topPad_apply (v : Vec Ideal S1x3x2x128 .bf16) (ci : Fin 3) (a : Fin 2) (b : Fin 130) :
    k0_pay65 (k0_pay63 v) k0_pay64 (ix3 ci a b) = if h : 1 ≤ b.val ∧ b.val ≤ 128 then v (ix4 0 ci a ⟨b.val - 1, by omega⟩) else (0 : EReal) := by
  have hb := b.isLt
  pointwise [k0_pay65, k0_pay63, k0_pay64, k0_pay62]
  simp only [zeroPad]
  split_ifs <;> first
    | rfl
    | (exfalso; omega)
    | exact Eq.symm (dif_pos (by omega))
    | exact Eq.symm (dif_neg (by omega))

/-- The padded rows at a tile's bottom, at an index. -/
theorem botPad_apply (v : Vec Ideal S1x3x8x128 .bf16) (ci : Fin 3) (a : Fin 2) (b : Fin 130) :
    k0_pay66 v (ix3 ci a b) = if h : 1 ≤ b.val ∧ b.val ≤ 128 then v (ix4 0 ci ⟨6 + a.val, by omega⟩ ⟨b.val - 1, by omega⟩) else (0 : EReal) := by
  have hb := b.isLt
  pointwise [k0_pay66]
  simp only [zeroPad]
  split_ifs <;> first
    | rfl
    | (exfalso; omega)
    | exact Eq.symm (dif_pos (by omega))
    | exact Eq.symm (dif_neg (by omega))

end Cert.KernelIdeal.Body
-- ==== Proof.KernelIdeal.Contr.lean ====
module

public import proofs.«01_k».proof.Proof.KernelIdeal.Rows

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## What a grid point adds, at an index -/

/-- The second convolution with the difference of its two filters, at row `p`, column `q` of the tile whose first row is `lo`. -/
def contrS (W : ℕ → ℕ → EReal) (b : ℕ → EReal) (V : ℕ → ℕ → EReal) (β : EReal) (X : ℕ → ℕ → ℕ → EReal) (lo p q : ℕ) : EReal :=
  β + ∑ t ∈ Finset.range 9, (if 1 ≤ p + t / 3 % 3 ∧ 1 ≤ q + t % 3 ∧ p + t / 3 % 3 ≤ 128 ∧ q + t % 3 ≤ 128 then
    ∑ n ∈ Finset.range 32, V n t * hidS W b X lo (lo + 128) n (lo + (p + t / 3 % 3 - 1)) (q + t % 3 - 1) else 0)

/-- A hidden row away from a tile's cut borders is the same of the whole image and of the tile's rows. -/
theorem hidS_rows (W : ℕ → ℕ → EReal) (b : ℕ → EReal) (X : ℕ → ℕ → ℕ → EReal) (lo hi lo' hi' n r q : ℕ)
    (h : ∀ d < 3, (lo + 1 ≤ r + d ∧ r + d ≤ hi) ↔ (lo' + 1 ≤ r + d ∧ r + d ≤ hi')) : hidS W b X lo hi n r q = hidS W b X lo' hi' n r q := by
  unfold hidS
  refine congrArg (fun z : EReal => max (z + b n) 0) (Finset.sum_congr rfl fun t ht => ?_)
  have ht' := Finset.mem_range.mp ht
  have := h (t / 9) (by omega)
  refine congrArg (fun z : EReal => W n t * z) ?_
  exact if_congr (by rw [← and_assoc, ← and_assoc (a := lo' + 1 ≤ r + t / 9), this]) rfl rfl

/-- What a grid point adds to its tile, at an index. -/
theorem contrAt_val (i : grid0.Coords) (arg2 : Memref sig .tc .vmem S4x3x384x384 .bf16) (harg2 : arg2.IsWhole) (arg3 : Memref sig .tc .smem S32x3x3x3 .f32) (harg3 : arg3.IsWhole) (arg4 : Memref sig .tc .smem S32 .f32) (harg4 : arg4.IsWhole) (arg5 : Memref sig .tc .smem S2x32x3x3 .f32) (harg5 : arg5.IsWhole) (arg6 : Memref sig .tc .smem S2 .f32) (harg6 : arg6.IsWhole) (arg7 : Memref sig .tc .vmem S32x27 .f32) (harg7 : arg7.IsWhole) (arg8 : Memref sig .tc .vmem S32x1 .f32) (harg8 : arg8.IsWhole) (arg9 : Memref sig .tc .vmem S1x384x384 .f32) (harg9 : arg9.IsWhole) (arg10 : Memref sig .tc .vmem S384x384 .f32) (harg10 : arg10.IsWhole) (arg11 : Memref sig .tc .vmem S4x384x384 .f32) (harg11 : arg11.IsWhole) (arg12 : Memref sig .tc .vmem S32x384x128 .bf16) (harg12 : arg12.IsWhole) (arg13 : Memref sig .tc .vmem S32x128 .bf16) (harg13 : arg13.IsWhole) (arg14 : Memref sig .tc .vmem S32x128 .bf16) (harg14 : arg14.IsWhole)
    (x2 : Vec Ideal S4x3x384x384 .bf16) (x3 : Vec Ideal S32x3x3x3 .f32) (x4 : Vec Ideal S32 .f32) (x5 : Vec Ideal S2x32x3x3 .f32) (x6 : Vec Ideal S2 .f32) (x7 : Vec Ideal S32x27 .f32) (x8 : Vec Ideal S32x1 .f32) (x12 : Vec Ideal S32x384x128 .bf16)
    (h7 : ∀ (n : Fin 32) (t : Fin 27), x7 (ix2 n t) = rdW1 x3 n.val t.val) (h8 : ∀ n : Fin 32, x8 (ix2 n 0) = rdB1 x4 n.val)
    (h12 : ∀ (n : Fin 32) (r : Fin 384) (q : Fin 128), x12 (ix3 n r q) = hidS (rdW1 x3) (rdB1 x4) (colX x2 (i 0).val) 0 384 n.val r.val q.val)
    (p q : Fin 128) :
    contrAt i arg2 harg2 arg3 harg3 arg4 harg4 arg5 harg5 arg6 harg6 arg7 harg7 arg8 harg8 arg9 harg9 arg10 harg10 arg11 harg11 arg12 harg12 arg13 harg13 arg14 harg14 x2 x5 x6 x7 x8 x12 (BitVec.ofNat 32 (i 1).val)
        (k0_pay63 (View.readAt (Elt Ideal) arg2.view (Rect.unit (s := S4x3x384x384) (k0_off31 i) S1x3x2x128.size (k0_off31_inb i)).toLoadRect (harg2.unread x2))) k0_pay64 (ix2 p q)
      = contrS (rdW1 x3) (rdB1 x4) (fun n t => rdW2 x5 1 n t - rdW2 x5 0 n t) ((x6 (ix1 1) : EReal) - x6 (ix1 0)) (colX x2 (i 0).val) (32 * (i 1).val) p.val q.val := by
  have hi1 : (i 1).val < 9 := (i 1).isLt
  unfold contrAt contrS
  have hcol : ∀ (n : Fin 32) (t : ℕ), t < 27 → ldCol arg7 harg7 x7 t (ix2 n 0) = rdW1 x3 n.val t := by
    intro n t ht
    rw [ldCol_apply, h7]
    exact congrArg (rdW1 x3 n.val) (Nat.mod_eq_of_lt ht)
  have hbias : ∀ n : Fin 32, ldBias arg8 harg8 x8 (ix2 n 0) = rdB1 x4 n.val := fun n => (ldBias_apply arg8 harg8 x8 n).trans (h8 n)
  have htop : ∀ (n : Fin 32) (q : Fin 128), topRow (k0_pay65 (k0_pay63 (View.readAt (Elt Ideal) arg2.view (Rect.unit (s := S4x3x384x384) (k0_off31 i) S1x3x2x128.size (k0_off31_inb i)).toLoadRect (harg2.unread x2))) k0_pay64) (ldCol arg7 harg7 x7) (ldBias arg8 harg8 x8) (ix2 n q)
      = hidS (rdW1 x3) (rdB1 x4) (colX x2 (i 0).val) (32 * (i 1).val) (32 * (i 1).val + 128) n.val (32 * (i 1).val) q.val := by
    intro n q
    refine topRow_apply _ _ _ _ _ (colX x2 (i 0).val) (32 * (i 1).val) (32 * (i 1).val + 128) (by omega) (fun ci a b => ?_) hcol hbias n q
    rw [topPad_apply]
    by_cases hb : 1 ≤ b.val ∧ b.val ≤ 128
    · rw [dif_pos hb, if_pos hb, ldTop_apply]
      rfl
    · rw [dif_neg hb, if_neg hb]
  have hbot : ∀ (n : Fin 32) (q : Fin 128), botRow (ldBot i arg2 harg2 x2) (ldCol arg7 harg7 x7) (ldBias arg8 harg8 x8) (ix2 n q)
      = hidS (rdW1 x3) (rdB1 x4) (colX x2 (i 0).val) (32 * (i 1).val) (32 * (i 1).val + 128) n.val (32 * (i 1).val + 127) q.val := by
    intro n q
    refine botRow_apply _ _ _ _ _ (colX x2 (i 0).val) (32 * (i 1).val) (32 * (i 1).val + 128) (by omega) (fun ci a b => ?_) hcol hbias n q
    unfold ldBot
    rw [botPad_apply]
    by_cases hb : 1 ≤ b.val ∧ b.val ≤ 128
    · rw [dif_pos hb, if_pos hb, ldBot8_apply]
      exact congrArg (fun z => colX x2 (i 0).val ci.val z (b.val - 1)) (show 32 * (i 1).val + 120 + (6 + a.val) = 32 * (i 1).val + 128 - 2 + a.val by omega)
    · rw [dif_neg hb, if_neg hb]
  have hH : ∀ (s n : ℕ), n < 32 → s < 4 → ∀ (r : Fin 32) (q : Fin 128), (32 * s + r.val = 0 → (i 1).val = 0) → (32 * s + r.val = 127 → (i 1).val = 8) →
      ldH i arg12 harg12 x12 s n (ix3 0 r q) = hidS (rdW1 x3) (rdB1 x4) (colX x2 (i 0).val) (32 * (i 1).val) (32 * (i 1).val + 128) n (32 * (i 1).val + (32 * s + r.val)) q.val := by
    intro s n hn hs r q h0 h1
    have hr := r.isLt
    rw [ldH_apply, h12]
    have e1 : n % 32 = n := Nat.mod_eq_of_lt hn
    have e2 : 32 * (i 1).val + 32 * (s % 4) + r.val = 32 * (i 1).val + (32 * s + r.val) := by omega
    show hidS (rdW1 x3) (rdB1 x4) (colX x2 (i 0).val) 0 384 (n % 32) (32 * (i 1).val + 32 * (s % 4) + r.val) q.val = _
    rw [e1, e2]
    refine hidS_rows _ _ _ _ _ _ _ _ _ _ fun d hd => ?_
    omega
  rw [contrF_apply _ _ _ _ _ _ _ (fun n r q => hidS (rdW1 x3) (rdB1 x4) (colX x2 (i 0).val) (32 * (i 1).val) (32 * (i 1).val + 128) n (32 * (i 1).val + r) q)]
  · rw [ldB2_apply]
    refine congrArg (fun z : EReal => (x6 (ix1 1) : EReal) - x6 (ix1 0) + z) (Finset.sum_congr rfl fun t _ => ?_)
    refine if_congr Iff.rfl (Finset.sum_congr rfl fun n _ => ?_) rfl
    rw [ldW2_apply, ldW2_apply]
    rfl
  · intro n hn r q
    rw [maskRows_apply]
    by_cases hm : r.val = 0 ∧ 0 < (i 1).val
    · rw [if_pos ((topMask_apply (i 1) r q).mpr hm), ldRow_apply, htop]
      have e1 : n % 32 = n := Nat.mod_eq_of_lt hn
      show hidS _ _ _ _ _ (n % 32) _ _ = hidS _ _ _ _ _ n (32 * (i 1).val + r.val) _
      rw [e1, hm.1]; rfl
    · rw [if_neg (fun h => hm ((topMask_apply (i 1) r q).mp h)), hH 0 n hn (by omega) r q (by omega) (by have := r.isLt; omega)]
      rw [Nat.mul_zero, Nat.zero_add]
  · intro n hn r q
    rw [plainRows_apply, hH 1 n hn (by omega) r q (by omega) (by have := r.isLt; omega)]
  · intro n hn r q
    rw [plainRows_apply, hH 2 n hn (by omega) r q (by omega) (by have := r.isLt; omega)]
  · intro n hn r q
    rw [maskRows_apply]
    by_cases hm : r.val = 31 ∧ (i 1).val < 8
    · rw [if_pos ((botMask_apply (i 1) r q).mpr hm), ldRow_apply, hbot]
      have e1 : n % 32 = n := Nat.mod_eq_of_lt hn
      show hidS _ _ _ _ _ (n % 32) _ _ = hidS _ _ _ _ _ n (32 * (i 1).val + (96 + r.val)) _
      rw [e1, hm.1]
    · rw [if_neg (fun h => hm ((botMask_apply (i 1) r q).mp h)), hH 3 n hn (by omega) r q (by omega) (by have := r.isLt; omega)]

end Cert.KernelIdeal.Body
-- ==== Proof.KernelIdeal.Acc.lean ====
module

public import proofs.«01_k».proof.Proof.KernelIdeal.Contr
public import proofs.«01_k».proof.Proof.KernelIdeal.Frame
public import Idealize.ShloMosaic.Lib.Pipeline.Value
public import Idealize.ShloMosaic.Lib.Pipeline.ValueKit.Geometry
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

variable (m : (ℓ : Loc nD τ sig) → Buf (Elt Ideal) ℓ)

/-! ## The windows' blocks are the arrays -/

/-- An array the kernel is called with. -/
def aX (c : Dev nD) : Vec Ideal S4x3x384x384 .bf16 := V m c main_v18
@[inherit_doc aX] def aW1 (c : Dev nD) : Vec Ideal S32x3x3x3 .f32 := V m c main_v3
@[inherit_doc aX] def aB1 (c : Dev nD) : Vec Ideal S32 .f32 := V m c main_arg2
@[inherit_doc aX] def aW2 (c : Dev nD) : Vec Ideal S2x32x3x3 .f32 := V m c main_v6
@[inherit_doc aX] def aB2 (c : Dev nD) : Vec Ideal S2 .f32 := V m c main_arg4
@[inherit_doc aX] def aCol (c : Dev nD) : Vec Ideal S32x27 .f32 := V m c main_v20
@[inherit_doc aX] def aBias (c : Dev nD) : Vec Ideal S32x1 .f32 := V m c main_v21

theorem idx0_0 : ∀ (t : Fin cfg0.N) (a : Fin (cfg0.win 0).shape.rank), (cfg0.win 0).index t a = 0 := by decide +kernel

theorem iblk0 (c : Dev nD) (t : Fin cfg0.N) : iblk m c 0 t = aX m c := by
  funext y
  show V m c main_v18 (((cfg0.win 0).blk t).view.emb y) = V m c main_v18 y
  refine congrArg _ (funext fun a => Fin.ext ?_)
  exact Pipeline.Window.rect_emb_val_of_index_zero (cfg0.win 0) t _ (idx0_0 t a) y

theorem idx0_1 : ∀ (t : Fin cfg0.N) (a : Fin (cfg0.win 1).shape.rank), (cfg0.win 1).index t a = 0 := by decide +kernel

theorem iblk1 (c : Dev nD) (t : Fin cfg0.N) : iblk m c 1 t = aW1 m c := by
  funext y
  show V m c main_v3 (((cfg0.win 1).blk t).view.emb y) = V m c main_v3 y
  refine congrArg _ (funext fun a => Fin.ext ?_)
  exact Pipeline.Window.rect_emb_val_of_index_zero (cfg0.win 1) t _ (idx0_1 t a) y

theorem idx0_2 : ∀ (t : Fin cfg0.N) (a : Fin (cfg0.win 2).shape.rank), (cfg0.win 2).index t a = 0 := by decide +kernel

theorem iblk2 (c : Dev nD) (t : Fin cfg0.N) : iblk m c 2 t = aB1 m c := by
  funext y
  show V m c main_arg2 (((cfg0.win 2).blk t).view.emb y) = V m c main_arg2 y
  refine congrArg _ (funext fun a => Fin.ext ?_)
  exact Pipeline.Window.rect_emb_val_of_index_zero (cfg0.win 2) t _ (idx0_2 t a) y

theorem idx0_3 : ∀ (t : Fin cfg0.N) (a : Fin (cfg0.win 3).shape.rank), (cfg0.win 3).index t a = 0 := by decide +kernel

theorem iblk3 (c : Dev nD) (t : Fin cfg0.N) : iblk m c 3 t = aW2 m c := by
  funext y
  show V m c main_v6 (((cfg0.win 3).blk t).view.emb y) = V m c main_v6 y
  refine congrArg _ (funext fun a => Fin.ext ?_)
  exact Pipeline.Window.rect_emb_val_of_index_zero (cfg0.win 3) t _ (idx0_3 t a) y

/-- The window of the second bias stays in place. -/
theorem idx0_4 : ∀ (t : Fin cfg0.N) (a : Fin (cfg0.win 4).shape.rank), (cfg0.win 4).index t a = 0 := by decide +kernel

/-- Every grid point reads the whole second bias. -/
theorem iblk4 (c : Dev nD) (t : Fin cfg0.N) : iblk m c 4 t = aB2 m c := by
  funext y
  show V m c main_arg4 (((cfg0.win 4).blk t).view.emb y) = V m c main_arg4 y
  refine congrArg _ (funext fun a => Fin.ext ?_)
  exact Pipeline.Window.rect_emb_val_of_index_zero (cfg0.win 4) t _ (idx0_4 t a) y

/-- The window of the first weights as columns stays in place. -/
theorem idx0_5 : ∀ (t : Fin cfg0.N) (a : Fin (cfg0.win 5).shape.rank), (cfg0.win 5).index t a = 0 := by decide +kernel

/-- Every grid point reads all the first weights as columns. -/
theorem iblk5 (c : Dev nD) (t : Fin cfg0.N) : iblk m c 5 t = aCol m c := by
  funext y
  show V m c main_v20 (((cfg0.win 5).blk t).view.emb y) = V m c main_v20 y
  refine congrArg _ (funext fun a => Fin.ext ?_)
  exact Pipeline.Window.rect_emb_val_of_index_zero (cfg0.win 5) t _ (idx0_5 t a) y

/-- The window of the first bias as a column stays in place. -/
theorem idx0_6 : ∀ (t : Fin cfg0.N) (a : Fin (cfg0.win 6).shape.rank), (cfg0.win 6).index t a = 0 := by decide +kernel

/-- Every grid point reads the whole first bias as a column. -/
theorem iblk6 (c : Dev nD) (t : Fin cfg0.N) : iblk m c 6 t = aBias m c := by
  funext y
  show V m c main_v21 (((cfg0.win 6).blk t).view.emb y) = V m c main_v21 y
  refine congrArg _ (funext fun a => Fin.ext ?_)
  exact Pipeline.Window.rect_emb_val_of_index_zero (cfg0.win 6) t _ (idx0_6 t a) y

/-! ## The carried scratch buffers, point by point -/

/-- The first coordinate of a grid point is the tile's column. -/
theorem coords0 (t : Fin cfg0.N) : (grid0.coords t 0).val = t.val / 9 := by
  have h : ∀ t : Fin cfg0.N, (grid0.coords t 0).val = t.val / 9 := by decide +kernel
  exact h t

/-- The second coordinate of a grid point is the tile's row. -/
theorem coords1 (t : Fin cfg0.N) : (grid0.coords t 1).val = t.val % 9 := by
  have h : ∀ t : Fin cfg0.N, (grid0.coords t 1).val = t.val % 9 := by decide +kernel
  exact h t

/-- A column of tiles begins where the row is zero. -/
theorem cond2_iff : ∀ t : Fin cfg0.N, k0_cond2 (grid0.coords t) = 1#1 ↔ t.val % 9 = 0 := by decide +kernel

/-- The accumulator is cleared at the first grid point. -/
theorem condInit_iff : ∀ t : Fin cfg0.N, condInit (grid0.coords t) ↔ t.val = 0 := by decide +kernel

/-- The hidden strip of column `j` of tiles, at an index. -/
def stripS (c : Dev nD) (j n r q : ℕ) : EReal := hidS (rdW1 (aW1 m c)) (rdB1 (aB1 m c)) (colX (aX m c) j) 0 384 n r q

/-- What the tile at column `j`, row `i` adds, at an index of the tile. -/
def tileS (c : Dev nD) (j i p q : ℕ) : EReal :=
  contrS (rdW1 (aW1 m c)) (rdB1 (aB1 m c)) (fun n t => rdW2 (aW2 m c) 1 n t - rdW2 (aW2 m c) 0 n t) ((aB2 m c (ix1 1) : EReal) - aB2 m c (ix1 0)) (colX (aX m c) j) (32 * i) p q

/-- The hidden values held after a grid point, at an index. -/
theorem hsAt_apply (c : Dev nD) (t : Fin cfg0.N) (g : Vec Ideal S4x384x384 .f32) (h : Vec Ideal S32x384x128 .bf16)
    (hh : t.val % 9 ≠ 0 → ∀ (n : Fin 32) (r : Fin 384) (q : Fin 128), h (ix3 n r q) = stripS m c (t.val / 9) n.val r.val q.val)
    (n : Fin 32) (r : Fin 384) (q : Fin 128) : hsAt m c t g h (ix3 n r q) = stripS m c (t.val / 9) n.val r.val q.val := by
  unfold hsAt
  by_cases h9 : t.val % 9 = 0
  · rw [hs1_val _ _ _ _ _ _ _ _ _ _ _ _ _ _ _ _ _ _ _ _ _ _ _ _ _ _ _ _ _ _ _ _ _ ((cond2_iff t).mpr h9), iblk0, iblk1, iblk2, coords0]
    rfl
  · unfold hs1
    rw [dif_neg (fun e => h9 ((cond2_iff t).mp e))]
    exact hh h9 n r q

/-- The accumulator's window plus a tile, at an index. -/
theorem addTile_apply (x : Vec Ideal S1x128x128 .f32) (y : FVec Ideal S128x128 .f32) (p q : Fin 128) :
    shapeCast S1x128x128 (addf (shapeCast S128x128 x shapeCasts_S1x128x128_S128x128) y) shapeCasts_S128x128_S1x128x128 (ix3 0 p q) = (x (ix3 0 p q) : EReal) + (y (ix2 p q) : EReal) := by
  pointwise []

/-- The cleared accumulator is zero. -/
theorem init_apply (k : Fin 4) (R C : Fin 384) : k0_pay58 (F := Ideal) (ix3 k R C) = (0 : EReal) := by
  pointwise [k0_pay58]

/-- The accumulator after a grid point, at an index. -/
theorem segFrom_apply (c : Dev nD) (t : Fin cfg0.N) (s : Vec Ideal S4x384x384 .f32) (hs : Vec Ideal S32x384x128 .bf16)
    (h7 : ∀ (n : Fin 32) (t : Fin 27), aCol m c (ix2 n t) = rdW1 (aW1 m c) n.val t.val) (h8 : ∀ n : Fin 32, aBias m c (ix2 n 0) = rdB1 (aB1 m c) n.val)
    (hh : ∀ (n : Fin 32) (r : Fin 384) (q : Fin 128), hs (ix3 n r q) = stripS m c (t.val / 9) n.val r.val q.val)
    (k : Fin 4) (R C : Fin 384) :
    segFrom m c t s hs (ix3 k R C) = s (ix3 k R C) + (if k.val = t.val / 9 % 4 ∧ 32 * (t.val % 9) ≤ R.val ∧ R.val < 32 * (t.val % 9) + 128 ∧ 128 * (t.val / 9 / 4) ≤ C.val ∧ C.val < 128 * (t.val / 9 / 4) + 128
      then tileS m c (t.val / 9) (t.val % 9) (R.val - 32 * (t.val % 9)) (C.val - 128 * (t.val / 9 / 4)) else (0 : EReal)) := by
  unfold segFrom
  rw [mid_val]
  have e65 := off65_eq (grid0.coords t)
  rw [coords0, coords1] at e65
  by_cases hin : k.val = t.val / 9 % 4 ∧ 32 * (t.val % 9) ≤ R.val ∧ R.val < 32 * (t.val % 9) + 128 ∧ 128 * (t.val / 9 / 4) ≤ C.val ∧ C.val < 128 * (t.val / 9 / 4) + 128
  · obtain ⟨hk, hR1, hR2, hC1, hC2⟩ := hin
    rw [if_pos ⟨hk, hR1, hR2, hC1, hC2⟩]
    refine (View.read_writes_cons_unit_of_mem _ _ (k0_off65_inb (grid0.coords t)) _ [] (ix3 k R C) (ix3 (0 : Fin 1) (⟨R.val - 32 * (t.val % 9), by omega⟩ : Fin 128) (⟨C.val - 128 * (t.val / 9 / 4), by omega⟩ : Fin 128)) e65 ?_).trans ?_
    · intro a
      match a with
      | ⟨0, _⟩ => exact hk
      | ⟨1, _⟩ => exact (Nat.add_sub_cancel' hR1).symm
      | ⟨2, _⟩ => exact (Nat.add_sub_cancel' hC1).symm
    · rw [addTile_apply]
      refine congr (congrArg (fun a b : EReal => a + b) ?_) ?_
      · refine ((Memref.isWhole_whole cc0_scratch0).readAt_unread s _ _).trans (congrArg s (Shape.idx3_ext ?_ ?_ ?_))
        · refine (idx_at _ _ _ _ 0 _ (congrFun e65 0)).trans ?_
          exact hk.symm
        · refine (idx_at _ _ _ _ 1 _ (congrFun e65 1)).trans ?_
          exact Nat.add_sub_cancel' hR1
        · refine (idx_at _ _ _ _ 2 _ (congrFun e65 2)).trans ?_
          exact Nat.add_sub_cancel' hC1
      · rw [contrAt_val _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) hs
          (by rw [iblk5, iblk1]; exact h7) (by rw [iblk6, iblk2]; exact h8) (by rw [iblk0, iblk1, iblk2, coords0]; exact hh)]
        rw [iblk0, iblk1, iblk2, iblk3, iblk4, coords0, coords1]
        rfl
  · rw [if_neg hin, add_zero]
    have hout : ∃ a : Fin 3, ((ix3 k R C : S4x384x384.Idx) a).val < (![t.val / 9 % 4, 32 * (t.val % 9), 128 * (t.val / 9 / 4)] : Fin 3 → ℕ) a ∨ (![t.val / 9 % 4, 32 * (t.val % 9), 128 * (t.val / 9 / 4)] : Fin 3 → ℕ) a + S1x128x128.size a ≤ ((ix3 k R C : S4x384x384.Idx) a).val := by
      by_contra hall
      refine hin ⟨?_, ?_, ?_, ?_, ?_⟩
      · have := not_or.mp (fun e => hall ⟨0, e⟩)
        have h1 : ¬ k.val < t.val / 9 % 4 := this.1
        have h2 : ¬ t.val / 9 % 4 + 1 ≤ k.val := this.2
        omega
      · exact Nat.not_lt.mp (fun e => hall ⟨1, Or.inl e⟩)
      · exact Nat.not_le.mp (fun e => hall ⟨1, Or.inr e⟩)
      · exact Nat.not_lt.mp (fun e => hall ⟨2, Or.inl e⟩)
      · exact Nat.not_le.mp (fun e => hall ⟨2, Or.inr e⟩)
    obtain ⟨a, ha⟩ := hout
    refine (View.read_writes_cons_unit_of_not_mem _ _ (k0_off65_inb (grid0.coords t)) _ [] (ix3 k R C) e65 a ha).trans ?_
    exact congrFun ((Memref.isWhole_whole cc0_scratch0).read_unread s) (ix3 k R C)

/-- Whether tile `t`, in the order of the grid, covers an index of the accumulator, and what it adds there. -/
def addS (c : Dev nD) (t k R C : ℕ) : EReal :=
  if k = t / 9 % 4 ∧ 32 * (t % 9) ≤ R ∧ R < 32 * (t % 9) + 128 ∧ 128 * (t / 9 / 4) ≤ C ∧ C < 128 * (t / 9 / 4) + 128
    then tileS m c (t / 9) (t % 9) (R - 32 * (t % 9)) (C - 128 * (t / 9 / 4)) else 0

/-- The accumulator after `n` grid points is the sum of what they add. -/
theorem stAt_apply (c : Dev nD)
    (h7 : ∀ (n : Fin 32) (t : Fin 27), aCol m c (ix2 n t) = rdW1 (aW1 m c) n.val t.val) (h8 : ∀ n : Fin 32, aBias m c (ix2 n 0) = rdB1 (aB1 m c) n.val) (n : ℕ) (hn : n < 81) :
    (∀ (k : Fin 4) (R C : Fin 384), (stAt m c (n + 1)).1 (ix3 k R C) = ∑ t ∈ Finset.range (n + 1), addS m c t k.val R.val C.val)
      ∧ ∀ (a : Fin 32) (r : Fin 384) (q : Fin 128), (stAt m c (n + 1)).2 (ix3 a r q) = stripS m c (n / 9) a.val r.val q.val := by
  induction n with
  | zero =>
    have e := stAt_succ m c ⟨0, hn⟩ (stAt m c 0).1 (stAt m c 0).2 (Or.inl rfl)
    have hs : ∀ (a : Fin 32) (r : Fin 384) (q : Fin 128), hsAt m c ⟨0, hn⟩ (stAt m c 0).1 (stAt m c 0).2 (ix3 a r q) = stripS m c (0 / 9) a.val r.val q.val :=
      hsAt_apply m c ⟨0, hn⟩ _ _ (fun h => absurd rfl h)
    refine ⟨fun k R C => ?_, fun a r q => ?_⟩
    · refine (congrFun e.1.symm _).trans ?_
      unfold segAt
      rw [segFrom_apply m c ⟨0, hn⟩ _ _ h7 h8 hs, Finset.sum_range_one]
      unfold seg1
      rw [if_pos ((condInit_iff ⟨0, hn⟩).mpr rfl), init_apply, zero_add]
      rfl
    · exact (congrFun e.2.symm _).trans (hs a r q)
  | succ n ih =>
    have hn' : n < 81 := by omega
    obtain ⟨ih1, ih2⟩ := ih hn'
    have e := stAt_succ m c ⟨n + 1, hn⟩ (stAt m c (n + 1)).1 (stAt m c (n + 1)).2 (Or.inr ⟨rfl, rfl⟩)
    have hs : ∀ (a : Fin 32) (r : Fin 384) (q : Fin 128), hsAt m c ⟨n + 1, hn⟩ (stAt m c (n + 1)).1 (stAt m c (n + 1)).2 (ix3 a r q) = stripS m c ((n + 1) / 9) a.val r.val q.val := by
      refine hsAt_apply m c ⟨n + 1, hn⟩ _ _ (fun h a r q => (ih2 a r q).trans ?_)
      have h' : (n + 1) % 9 ≠ 0 := h
      have e9 : n / 9 = (n + 1) / 9 := by omega
      rw [e9]
    refine ⟨fun k R C => ?_, fun a r q => ?_⟩
    · refine (congrFun e.1.symm _).trans ?_
      unfold segAt
      rw [segFrom_apply m c ⟨n + 1, hn⟩ _ _ h7 h8 hs, Finset.sum_range_succ]
      unfold seg1
      rw [if_neg (fun h => absurd ((condInit_iff ⟨n + 1, hn⟩).mp h) (Nat.succ_ne_zero n)), ih1]
      rfl
    · exact (congrFun e.2.symm _).trans (hs a r q)

/-- The first output after the launch is what the last grid point stores. -/
theorem final7 (c : Dev nD) : (dats m 0 c).arrAt 7 cfg0.N = headOut (stAt m c 81).1 := by
  funext i
  refine ((dats m 0 c).arrAt_emb_eq_after_last 7 ⟨80, by decide +kernel⟩ (by decide +kernel) i).trans ?_
  have e := after0_7 m c ⟨80, by decide +kernel⟩
  generalize headOut (stAt m c 81).1 = X at e ⊢
  rw [e]
  rfl

/-- The second output after the launch is what the last grid point stores. -/
theorem final8 (c : Dev nD) : (dats m 0 c).arrAt 8 cfg0.N = segOut (stAt m c 81).1 := by
  funext i
  refine ((dats m 0 c).arrAt_emb_eq_after_last 8 ⟨80, by decide +kernel⟩ (by decide +kernel) i).trans ?_
  rw [after0_8]
  rfl

end Cert.KernelIdeal.Body
-- ==== Proof.KernelIdeal.Total.lean ====
module

public import proofs.«01_k».proof.Proof.KernelIdeal.Acc

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

variable (m : (ℓ : Loc nD τ sig) → Buf (Elt Ideal) ℓ)

/-! ## The second output, from the accumulator -/

/-- The accumulator read at numbers. -/
def rdSeg (x : Vec Ideal S4x384x384 .f32) (k R C : ℕ) : EReal := x (ix3 ⟨k % 4, Nat.mod_lt _ (by decide)⟩ ⟨R % 384, Nat.mod_lt _ (by decide)⟩ ⟨C % 384, Nat.mod_lt _ (by decide)⟩)

/-- The first copy of the accumulator at an index. -/
theorem segL_0 (x : Vec Ideal S4x384x384 .f32) (R C : Fin 384) : segL0 x (ix3 0 R C) = rdSeg x 0 R.val C.val := by
  unfold segL0 rdSeg
  refine congrArg x (Shape.idx3_ext ?_ ?_ ?_)
  · exact (Rect.idx_unit_val _ _ _ _ _).trans rfl
  · exact (Rect.idx_unit_val _ _ _ _ _).trans ((Nat.zero_add _).trans (Nat.mod_eq_of_lt R.isLt).symm)
  · exact (Rect.idx_unit_val _ _ _ _ _).trans ((Nat.zero_add _).trans (Nat.mod_eq_of_lt C.isLt).symm)
/-- The second copy of the accumulator at an index. -/
theorem segL_1 (x : Vec Ideal S4x384x384 .f32) (R : Fin 384) (C : Fin 352) : segL1 x (ix3 0 R C) = rdSeg x 1 R.val C.val := by
  unfold segL1 rdSeg
  refine congrArg x (Shape.idx3_ext ?_ ?_ ?_)
  · exact (Rect.idx_unit_val _ _ _ _ _).trans rfl
  · exact (Rect.idx_unit_val _ _ _ _ _).trans ((Nat.zero_add _).trans (Nat.mod_eq_of_lt R.isLt).symm)
  · exact (Rect.idx_unit_val _ _ _ _ _).trans ((Nat.zero_add _).trans (Nat.mod_eq_of_lt (by have := C.isLt; show C.val < 384; omega)).symm)
/-- The third copy of the accumulator at an index. -/
theorem segL_2 (x : Vec Ideal S4x384x384 .f32) (R : Fin 384) (C : Fin 320) : segL2 x (ix3 0 R C) = rdSeg x 2 R.val C.val := by
  unfold segL2 rdSeg
  refine congrArg x (Shape.idx3_ext ?_ ?_ ?_)
  · exact (Rect.idx_unit_val _ _ _ _ _).trans rfl
  · exact (Rect.idx_unit_val _ _ _ _ _).trans ((Nat.zero_add _).trans (Nat.mod_eq_of_lt R.isLt).symm)
  · exact (Rect.idx_unit_val _ _ _ _ _).trans ((Nat.zero_add _).trans (Nat.mod_eq_of_lt (by have := C.isLt; show C.val < 384; omega)).symm)
/-- The fourth copy of the accumulator at an index. -/
theorem segL_3 (x : Vec Ideal S4x384x384 .f32) (R : Fin 384) (C : Fin 288) : segL3 x (ix3 0 R C) = rdSeg x 3 R.val C.val := by
  unfold segL3 rdSeg
  refine congrArg x (Shape.idx3_ext ?_ ?_ ?_)
  · exact (Rect.idx_unit_val _ _ _ _ _).trans rfl
  · exact (Rect.idx_unit_val _ _ _ _ _).trans ((Nat.zero_add _).trans (Nat.mod_eq_of_lt R.isLt).symm)
  · exact (Rect.idx_unit_val _ _ _ _ _).trans ((Nat.zero_add _).trans (Nat.mod_eq_of_lt (by have := C.isLt; show C.val < 384; omega)).symm)

/-- The second output is the sum of the four copies, each shifted back. -/
theorem segOut_apply (x : Vec Ideal S4x384x384 .f32) (R C : Fin 384) :
    segOut x (ix2 R C) = ∑ k ∈ Finset.range 4, (if 32 * k ≤ C.val then rdSeg x k R.val (C.val - 32 * k) else 0) := by
  have hC := C.isLt
  pointwise [segOut, k0_pay54, segL_0, segL_1, segL_2, segL_3]
  simp only [zeroPad, Finset.sum_range_succ, Finset.sum_range_zero, zero_add, Nat.mul_zero, Nat.zero_le, if_true, Nat.sub_zero, Nat.reduceMul]
  split_ifs <;> first | rfl | (exfalso; omega)

/-- What tile `t`, in the order of the grid, adds to the second output at an index. -/
def addT (c : Dev nD) (t R C : ℕ) : EReal :=
  if 32 * (t % 9) ≤ R ∧ R < 32 * (t % 9) + 128 ∧ 32 * (t / 9) ≤ C ∧ C < 32 * (t / 9) + 128
    then tileS m c (t / 9) (t % 9) (R - 32 * (t % 9)) (C - 32 * (t / 9)) else 0

/-- The second output is the sum over the tiles. -/
theorem seg_val (c : Dev nD)
    (h7 : ∀ (n : Fin 32) (t : Fin 27), aCol m c (ix2 n t) = rdW1 (aW1 m c) n.val t.val) (h8 : ∀ n : Fin 32, aBias m c (ix2 n 0) = rdB1 (aB1 m c) n.val) (R C : Fin 384) :
    segOut (stAt m c 81).1 (ix2 R C) = ∑ t ∈ Finset.range 81, addT m c t R.val C.val := by
  have hR := R.isLt
  have hC := C.isLt
  rw [segOut_apply]
  have e : ∀ k ∈ Finset.range 4, (if 32 * k ≤ C.val then rdSeg (stAt m c 81).1 k R.val (C.val - 32 * k) else 0)
      = ∑ t ∈ Finset.range 81, (if 32 * k ≤ C.val then addS m c t k R.val (C.val - 32 * k) else 0) := by
    intro k hk
    have hk' := Finset.mem_range.mp hk
    by_cases h : 32 * k ≤ C.val
    · simp only [if_pos h]
      unfold rdSeg
      rw [(stAt_apply m c h7 h8 80 (by decide)).1]
      refine Finset.sum_congr rfl fun t _ => ?_
      show addS m c t (k % 4) (R.val % 384) ((C.val - 32 * k) % 384) = _
      rw [Nat.mod_eq_of_lt hk', Nat.mod_eq_of_lt hR, Nat.mod_eq_of_lt (by omega : C.val - 32 * k < 384)]
    · simp only [if_neg h, Finset.sum_const_zero]
  rw [Finset.sum_congr rfl e, Finset.sum_comm]
  refine Finset.sum_congr rfl fun t ht => ?_
  have ht' := Finset.mem_range.mp ht
  rw [Finset.sum_eq_single_of_mem (t / 9 % 4) (Finset.mem_range.mpr (Nat.mod_lt _ (by decide)))]
  · unfold addS addT
    by_cases h : 32 * (t % 9) ≤ R.val ∧ R.val < 32 * (t % 9) + 128 ∧ 32 * (t / 9) ≤ C.val ∧ C.val < 32 * (t / 9) + 128
    · rw [if_pos h, if_pos (by omega), if_pos (by omega)]
      congr 1
      omega
    · rw [if_neg h]
      split_ifs <;> first | rfl | (exfalso; omega)
  · intro k _ hk
    unfold addS
    split_ifs <;> first | rfl | (exfalso; omega)

end Cert.KernelIdeal.Body
-- ==== Proof.KernelIdeal.HostIn.lean ====
module

public import proofs.«01_k».proof.Proof.KernelIdeal.Total
public import Idealize.ShloMosaic.Lib.StableHlo.ReadAt

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

variable (m : (ℓ : Loc nD τ sig) → Buf (Elt Ideal) ℓ)

/-! ## The arrays the kernel is called with, in the arguments -/

/-- The arguments. -/
def gX (c : Dev nD) : Vec Ideal S3x384x384 .f32 := m ((c.tc : Thread nD τ).loc main_arg0)
@[inherit_doc gX] def gW1 (c : Dev nD) : Vec Ideal S32x3x3x3 .f32 := m ((c.tc : Thread nD τ).loc main_arg1)
@[inherit_doc gX] def gB1 (c : Dev nD) : Vec Ideal S32 .f32 := m ((c.tc : Thread nD τ).loc main_arg2)
@[inherit_doc gX] def gW2 (c : Dev nD) : Vec Ideal S2x32x3x3 .f32 := m ((c.tc : Thread nD τ).loc main_arg3)
@[inherit_doc gX] def gB2 (c : Dev nD) : Vec Ideal S2 .f32 := m ((c.tc : Thread nD τ).loc main_arg4)

/-- The first bias is passed as it is. -/
theorem aB1_eq (c : Dev nD) : aB1 m c = gB1 m c := V_main_arg2 m c
/-- The second bias is passed as it is. -/
theorem aB2_eq (c : Dev nD) : aB2 m c = gB2 m c := V_main_arg4 m c

/-- The first weights are passed as they are. -/
theorem aW1_eq (c : Dev nD) : aW1 m c = gW1 m c := by
  funext i
  unfold aW1 gW1 V
  after_reads_at
  rfl

/-- The second weights are passed as they are. -/
theorem aW2_eq (c : Dev nD) : aW2 m c = gW2 m c := by
  funext i
  unfold aW2 gW2 V
  after_reads_at
  rfl

/-- The first weights as columns, at an index. -/
theorem aCol_apply (c : Dev nD) (n : Fin 32) (t : Fin 27) : aCol m c (ix2 n t) = rdW1 (aW1 m c) n.val t.val := by
  rw [aW1_eq]
  unfold aCol gW1 rdW1 V
  after_reads_at
  refine congrArg (m ((c.tc : Thread nD τ).loc main_arg1)) (idx4_ext ?_ ?_ ?_ ?_)
  · exact (Nat.mod_eq_of_lt n.isLt).symm
  · rfl
  · have := t.isLt; show t.val / 9 = t.val / 9 % 3; omega
  · rfl

/-- The first bias as a column, at an index. -/
theorem aBias_apply (c : Dev nD) (n : Fin 32) : aBias m c (ix2 n 0) = rdB1 (aB1 m c) n.val := by
  rw [aB1_eq]
  unfold aBias gB1 rdB1 V
  after_reads_at
  refine congrArg (m ((c.tc : Thread nD τ).loc main_arg2)) (Shape.idx1_ext ?_)
  exact (Nat.mod_eq_of_lt n.isLt).symm

/-- The four shifted copies of the image, at an index: past the right edge they are zero. -/
theorem aX_apply (c : Dev nD) (k : Fin 4) (ci : Fin 3) (r C : Fin 384) :
    aX m c (ix4 k ci r C) = if h : C.val + 32 * k.val < 384 then gX m c (ix3 ci r ⟨C.val + 32 * k.val, h⟩) else (0 : EReal) := by
  unfold aX gX V
  after_reads_at
  simp only [StableHlo.unary_result']
  after_reads_at
  have z : (FloatOps.sitofp FTy.bf16 0#32 : Ideal .bf16) = (0 : EReal) := zeroPad
  have hk := k.isLt
  have hC := C.isLt
  simp only [z]
  split_ifs <;> first
    | rfl
    | (exfalso; omega)
    | exact congrArg (m ((c.tc : Thread nD τ).loc main_arg0)) (Shape.idx3_ext rfl rfl (by first | (show C.val = C.val + 32 * k.val; omega) | (show 32 + C.val = C.val + 32 * k.val; omega) | (show 64 + C.val = C.val + 32 * k.val; omega) | (show 96 + C.val = C.val + 32 * k.val; omega)))

/-- The image read at numbers. -/
def rdI (x : Vec Ideal S3x384x384 .f32) (ci r C : ℕ) : EReal := x (ix3 ⟨ci % 3, Nat.mod_lt _ (by decide)⟩ ⟨r % 384, Nat.mod_lt _ (by decide)⟩ ⟨C % 384, Nat.mod_lt _ (by decide)⟩)

/-- A tile's columns, read from the shifted copies, are the image's own. -/
theorem colX_eq (c : Dev nD) (j ci r q : ℕ) (hj : j < 9) (hq : q < 128) : colX (aX m c) j ci r q = rdI (gX m c) ci r (32 * j + q) := by
  unfold colX rdX rdI
  rw [aX_apply, dif_pos (by show (128 * (j / 4) + q) % 384 + 32 * (j % 4 % 4) < 384; omega)]
  refine congrArg (gX m c) (Shape.idx3_ext rfl rfl ?_)
  show (128 * (j / 4) + q) % 384 + 32 * (j % 4 % 4) = (32 * j + q) % 384
  omega

/-- The hidden values do not read an image right of its 128 columns. -/
theorem hidS_congr (W : ℕ → ℕ → EReal) (b : ℕ → EReal) (X X' : ℕ → ℕ → ℕ → EReal) (lo hi n r q : ℕ) (h : ∀ ci r q, q < 128 → X ci r q = X' ci r q) :
    hidS W b X lo hi n r q = hidS W b X' lo hi n r q := by
  unfold hidS
  refine congrArg (fun z : EReal => max (z + b n) 0) (Finset.sum_congr rfl fun t _ => ?_)
  refine congrArg (fun z : EReal => W n t * z) ?_
  split_ifs with hc
  · exact h _ _ _ (by omega)
  · rfl

/-- What a tile adds does not read an image right of its 128 columns. -/
theorem contrS_congr (W : ℕ → ℕ → EReal) (b : ℕ → EReal) (V : ℕ → ℕ → EReal) (β : EReal) (X X' : ℕ → ℕ → ℕ → EReal) (lo p q : ℕ) (h : ∀ ci r q, q < 128 → X ci r q = X' ci r q) :
    contrS W b V β X lo p q = contrS W b V β X' lo p q := by
  unfold contrS
  refine congrArg (fun z : EReal => β + z) (Finset.sum_congr rfl fun t _ => ?_)
  split_ifs
  · exact Finset.sum_congr rfl fun n _ => congrArg (fun z : EReal => V n t * z) (hidS_congr W b X X' _ _ _ _ _ h)
  · rfl

/-- The image's columns from `32 j` on. -/
def imgS (x : Vec Ideal S3x384x384 .f32) (j ci r q : ℕ) : EReal := rdI x ci r (32 * j + q)

/-- The second output of the kernel, at an index, in the arguments. -/
theorem seg_args (c : Dev nD) (R C : Fin 384) :
    segOut (stAt m c 81).1 (ix2 R C) = ∑ t ∈ Finset.range 81, (if 32 * (t % 9) ≤ R.val ∧ R.val < 32 * (t % 9) + 128 ∧ 32 * (t / 9) ≤ C.val ∧ C.val < 32 * (t / 9) + 128
      then contrS (rdW1 (gW1 m c)) (rdB1 (gB1 m c)) (fun n t => rdW2 (gW2 m c) 1 n t - rdW2 (gW2 m c) 0 n t) ((gB2 m c (ix1 1) : EReal) - gB2 m c (ix1 0)) (imgS (gX m c) (t / 9)) (32 * (t % 9)) (R.val - 32 * (t % 9)) (C.val - 32 * (t / 9)) else (0 : EReal)) := by
  rw [seg_val m c (aCol_apply m c) (aBias_apply m c)]
  refine Finset.sum_congr rfl fun t ht => ?_
  have ht' := Finset.mem_range.mp ht
  unfold addT tileS
  refine if_congr Iff.rfl ?_ rfl
  rw [aW1_eq, aB1_eq, aW2_eq, aB2_eq]
  exact contrS_congr _ _ _ _ _ _ _ _ _ (fun ci r q hq => colX_eq m c (t / 9) ci r q (by omega) hq)

end Cert.KernelIdeal.Body
-- ==== Proof.KernelIdeal.Head.lean ====
module

public import proofs.«01_k».proof.Proof.KernelIdeal.HostIn

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## The first output, from the second -/

/-- The positive part of the second output, with a border of zeros. -/
def pd (S : Vec Ideal S384x384 .f32) (a b : ℕ) : EReal :=
  if h : 1 ≤ a ∧ a ≤ 384 ∧ 1 ≤ b ∧ b ≤ 384 then max (S (ix2 ⟨a - 1, by omega⟩ ⟨b - 1, by omega⟩) : EReal) 0 else 0

/-- The maximum over the eight neighbours. -/
def pool (S : Vec Ideal S384x384 .f32) (R C : ℕ) : EReal :=
  max (max (max (max (max (max (max (max 0 (pd S R C)) (pd S R (1 + C))) (pd S R (2 + C))) (pd S (1 + R) C)) (pd S (1 + R) (2 + C))) (pd S (2 + R) C)) (pd S (2 + R) (1 + C))) (pd S (2 + R) (2 + C))

/-- The first output at an index: the positive part where it is more than every neighbour, and zero elsewhere. -/
def headS (S : Vec Ideal S384x384 .f32) (R C : Fin 384) : EReal := if pool S R.val C.val < (S (ix2 R C) : EReal) then max (S (ix2 R C) : EReal) 0 else 0

/-- The kernel's positive part at an index. -/
theorem relu_apply (x : Vec Ideal S4x384x384 .f32) (R C : Fin 384) :
    k0_pay55 (segL0 x) (segL1 x) (segL2 x) (segL3 x) (ix2 R C) = max (segOut x (ix2 R C) : EReal) 0 := by
  unfold k0_pay55
  show maximumf (segOut x) _ (ix2 R C) = _
  generalize segOut x = S
  pointwise []

/-- The kernel's padded positive part at an index. -/
theorem pad_apply (x : Vec Ideal S4x384x384 .f32) (a b : Fin 386) :
    k0_pay56 (segL0 x) (segL1 x) (segL2 x) (segL3 x) (ix2 a b) = pd (segOut x) a.val b.val := by
  have hr := relu_apply x
  have ha := a.isLt
  have hb := b.isLt
  unfold k0_pay56 pd
  generalize k0_pay55 (segL0 x) (segL1 x) (segL2 x) (segL3 x) = P at hr ⊢
  generalize segOut x = S at hr ⊢
  pointwise [hr]
  simp only [zeroPad]
  by_cases h : 1 ≤ a.val ∧ a.val ≤ 384 ∧ 1 ≤ b.val ∧ b.val ≤ 384
  · rw [dif_pos h, dif_pos (by omega), dif_neg (by omega), dif_pos (by omega), dif_neg (by omega)]
  · rw [dif_neg h]
    split_ifs <;> first | rfl | (exfalso; omega)

/-- What is stored to the first output, at an index. -/
theorem head_apply (x : Vec Ideal S4x384x384 .f32) (R C : Fin 384) : headOut x (ix3 0 R C) = headS (segOut x) R C := by
  have hr := relu_apply x
  have hp := pad_apply x
  unfold headOut k0_pay2 k0_pay57 headS pool
  generalize k0_pay55 (segL0 x) (segL1 x) (segL2 x) (segL3 x) = P at hr ⊢
  generalize k0_pay56 (segL0 x) (segL1 x) (segL2 x) (segL3 x) = Q at hp ⊢
  generalize segOut x = S at hr hp ⊢
  pointwise [hr, hp]

end Cert.KernelIdeal.Body
-- ==== Proof.KernelIdeal.Algebra.lean ====
module

public import proofs.«01_k».proof.Proof.KernelIdeal.Head

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## The first output, from the second -/
/-! ## The two ways of summing the tiles -/

/-- A sum of reals is the same sum in the extended reals. -/
theorem coe_sum_real {ι : Type} (s : Finset ι) (f : ι → ℝ) : ∑ t ∈ s, ((f t : ℝ) : EReal) = ((∑ t ∈ s, f t : ℝ) : EReal) := by
  classical
  induction s using Finset.induction_on with
  | empty => simp
  | insert a s ha ih => rw [Finset.sum_insert ha, Finset.sum_insert ha, ih, EReal.coe_add]

/-- A choice between reals is the same choice in the extended reals. -/
theorem coe_ite_real (p : Prop) [Decidable p] (a b : ℝ) : (if p then (a : EReal) else (b : EReal)) = ((if p then a else b : ℝ) : EReal) := by
  split_ifs <;> rfl

/-- A maximum of reals is the same maximum in the extended reals. -/
theorem coe_max_real (a b : ℝ) : max (a : EReal) (b : EReal) = ((max a b : ℝ) : EReal) := (EReal.coe_strictMono.monotone.map_max).symm

/-- Of real operands the hidden values are real. -/
theorem hidS_real (W : ℕ → ℕ → ℝ) (b : ℕ → ℝ) (X : ℕ → ℕ → ℕ → ℝ) (lo hi n r q : ℕ) :
    ∃ h : ℝ, hidS (fun n t => (W n t : EReal)) (fun n => (b n : EReal)) (fun i r q => (X i r q : EReal)) lo hi n r q = (h : EReal) := by
  unfold hidS
  simp only [← EReal.coe_zero, coe_ite_real, ← EReal.coe_mul, coe_sum_real, ← EReal.coe_add, coe_max_real]
  exact ⟨_, rfl⟩

/-- What a tile adds besides its bias, of real weights and hidden values. -/
def coreS (v : ℕ → ℕ → ℝ) (h : ℕ → ℕ → ℕ → ℝ) (lo p q : ℕ) : ℝ :=
  ∑ t ∈ Finset.range 9, (if 1 ≤ p + t / 3 % 3 ∧ 1 ≤ q + t % 3 ∧ p + t / 3 % 3 ≤ 128 ∧ q + t % 3 ≤ 128 then ∑ n ∈ Finset.range 32, v n t * h n (lo + (p + t / 3 % 3 - 1)) (q + t % 3 - 1) else 0)

/-- The part without bias is linear in the weights. -/
theorem coreS_sub (v1 v0 : ℕ → ℕ → ℝ) (h : ℕ → ℕ → ℕ → ℝ) (lo p q : ℕ) : coreS (fun n t => v1 n t - v0 n t) h lo p q = coreS v1 h lo p q - coreS v0 h lo p q := by
  unfold coreS
  rw [← Finset.sum_sub_distrib]
  refine Finset.sum_congr rfl fun t _ => ?_
  split_ifs
  · rw [← Finset.sum_sub_distrib]
    exact Finset.sum_congr rfl fun n _ => sub_mul _ _ _
  · exact (sub_zero _).symm

/-- Of real operands a tile adds its bias and a real. -/
theorem contrS_real (W : ℕ → ℕ → EReal) (b : ℕ → EReal) (X : ℕ → ℕ → ℕ → EReal) (lo : ℕ) (h : ℕ → ℕ → ℕ → ℝ) (hh : ∀ n r q, hidS W b X lo (lo + 128) n r q = (h n r q : EReal))
    (v : ℕ → ℕ → ℝ) (β : EReal) (p q : ℕ) : contrS W b (fun n t => (v n t : EReal)) β X lo p q = β + (coreS v h lo p q : EReal) := by
  unfold contrS coreS
  simp only [hh, ← EReal.coe_mul, coe_sum_real, ← EReal.coe_zero, coe_ite_real]

/-- A sum of terms with the bias plus infinity is plus infinity. -/
theorem sum_top {ι : Type} (s : Finset ι) (hs : s.Nonempty) (f : ι → ℝ) : ∑ t ∈ s, ((⊤ : EReal) + (f t : EReal)) = ⊤ := by
  classical
  induction hs using Finset.Nonempty.cons_induction with
  | singleton a => rw [Finset.sum_singleton, EReal.top_add_coe]
  | cons a s ha hs ih => rw [Finset.sum_cons, ih, EReal.top_add_coe, EReal.top_add_top]

/-- A sum of terms with the bias minus infinity is minus infinity. -/
theorem sum_bot {ι : Type} (s : Finset ι) (hs : s.Nonempty) (f : ι → ℝ) : ∑ t ∈ s, ((⊥ : EReal) + (f t : EReal)) = ⊥ := by
  classical
  induction hs using Finset.Nonempty.cons_induction with
  | singleton a => rw [Finset.sum_singleton, EReal.bot_add]
  | cons a s ha hs ih => rw [Finset.sum_cons, ih, EReal.bot_add, EReal.bot_add]

/-- A sum of terms with a real bias is real. -/
theorem sum_real {ι : Type} (s : Finset ι) (β : ℝ) (f : ι → ℝ) : ∑ t ∈ s, ((β : EReal) + (f t : EReal)) = ((∑ t ∈ s, (β + f t) : ℝ) : EReal) := by
  simp only [← EReal.coe_add, coe_sum_real]

/-- The difference of two sums over the same tiles is the sum of the differences, whatever the two biases are. -/
theorem sub_sums {ι : Type} (s : Finset ι) (hs : s.Nonempty) (f1 f0 : ι → ℝ) (β1 β0 : EReal) :
    ∑ t ∈ s, (β1 + (f1 t : EReal)) - ∑ t ∈ s, (β0 + (f0 t : EReal)) = ∑ t ∈ s, ((β1 - β0) + ((f1 t - f0 t : ℝ) : EReal)) := by
  have hcc : ∀ r1 r0 : ℝ, ((∑ t ∈ s, (r1 + f1 t) : ℝ) : EReal) - ((∑ t ∈ s, (r0 + f0 t) : ℝ) : EReal) = ∑ t ∈ s, (((r1 : EReal) - (r0 : EReal)) + ((f1 t - f0 t : ℝ) : EReal)) := by
    intro r1 r0
    rw [← EReal.coe_sub, ← EReal.coe_sub, sum_real, ← Finset.sum_sub_distrib]
    exact congrArg (fun z : ℝ => (z : EReal)) (Finset.sum_congr rfl fun t _ => by ring)
  induction β1 with
  | bot => rw [sum_bot s hs, EReal.bot_sub, EReal.bot_sub, sum_bot s hs]
  | top =>
    induction β0 with
    | bot => rw [sum_top s hs, sum_bot s hs, EReal.top_sub_bot, sum_top s hs]
    | top => rw [sum_top s hs, sum_top s hs, EReal.sub_top, sum_bot s hs]
    | coe r0 => rw [sum_top s hs, sum_real, EReal.top_sub_coe, EReal.top_sub_coe, sum_top s hs]
  | coe r1 =>
    induction β0 with
    | bot => rw [sum_real, sum_bot s hs, EReal.coe_sub_bot, EReal.coe_sub_bot, sum_top s hs]
    | top => rw [sum_real, sum_top s hs, EReal.sub_top, EReal.sub_top, sum_bot s hs]
    | coe r0 => rw [sum_real, sum_real]; exact hcc r1 r0

/-- The tiles taken by columns are the tiles taken by rows. -/
theorem sum_tiles (f : ℕ → ℕ → EReal) : ∑ t ∈ Finset.range 81, f (t % 9) (t / 9) = ∑ t ∈ Finset.range 81, f (t / 9) (t % 9) := by
  refine Finset.sum_nbij' (fun t => t % 9 * 9 + t / 9) (fun t => t % 9 * 9 + t / 9) ?_ ?_ ?_ ?_ ?_
  · intro t ht; have := Finset.mem_range.mp ht; exact Finset.mem_range.mpr (by omega)
  · intro t ht; have := Finset.mem_range.mp ht; exact Finset.mem_range.mpr (by omega)
  · intro t ht; have := Finset.mem_range.mp ht; show (t % 9 * 9 + t / 9) % 9 * 9 + (t % 9 * 9 + t / 9) / 9 = t; omega
  · intro t ht; have := Finset.mem_range.mp ht; show (t % 9 * 9 + t / 9) % 9 * 9 + (t % 9 * 9 + t / 9) / 9 = t; omega
  · intro t ht
    have := Finset.mem_range.mp ht
    show f (t % 9) (t / 9) = f ((t % 9 * 9 + t / 9) / 9) ((t % 9 * 9 + t / 9) % 9)
    rw [show (t % 9 * 9 + t / 9) / 9 = t % 9 by omega, show (t % 9 * 9 + t / 9) % 9 = t / 9 by omega]

/-- Summing each plane of `pred` and subtracting is summing with the difference of the weights and of the biases. -/
theorem seg_alg (W : ℕ → ℕ → ℝ) (b : ℕ → ℝ) (X : ℕ → ℕ → ℕ → ℕ → ℝ) (v1 v0 : ℕ → ℕ → ℝ) (β1 β0 : EReal) (R C : ℕ) (hR : R < 384) (hC : C < 384) :
    (∑ t ∈ Finset.range 81, (if 32 * (t / 9) ≤ R ∧ R < 32 * (t / 9) + 128 ∧ 32 * (t % 9) ≤ C ∧ C < 32 * (t % 9) + 128
        then contrS (fun n t => (W n t : EReal)) (fun n => (b n : EReal)) (fun n t => (v1 n t : EReal)) β1 (fun i r q => (X (t % 9) i r q : EReal)) (32 * (t / 9)) (R - 32 * (t / 9)) (C - 32 * (t % 9)) else 0))
      - (∑ t ∈ Finset.range 81, (if 32 * (t / 9) ≤ R ∧ R < 32 * (t / 9) + 128 ∧ 32 * (t % 9) ≤ C ∧ C < 32 * (t % 9) + 128
        then contrS (fun n t => (W n t : EReal)) (fun n => (b n : EReal)) (fun n t => (v0 n t : EReal)) β0 (fun i r q => (X (t % 9) i r q : EReal)) (32 * (t / 9)) (R - 32 * (t / 9)) (C - 32 * (t % 9)) else 0))
      = ∑ t ∈ Finset.range 81, (if 32 * (t % 9) ≤ R ∧ R < 32 * (t % 9) + 128 ∧ 32 * (t / 9) ≤ C ∧ C < 32 * (t / 9) + 128
        then contrS (fun n t => (W n t : EReal)) (fun n => (b n : EReal)) (fun n t => (v1 n t : EReal) - (v0 n t : EReal)) (β1 - β0) (fun i r q => (X (t / 9) i r q : EReal)) (32 * (t % 9)) (R - 32 * (t % 9)) (C - 32 * (t / 9)) else 0) := by
  choose h hh using fun (j lo n r q : ℕ) => hidS_real W b (X j) lo (lo + 128) n r q
  have e : ∀ (v : ℕ → ℕ → ℝ) (β : EReal) (i j p q : ℕ), contrS (fun n t => (W n t : EReal)) (fun n => (b n : EReal)) (fun n t => (v n t : EReal)) β (fun c r q => (X j c r q : EReal)) (32 * i) p q
      = β + (coreS v (h j (32 * i)) (32 * i) p q : EReal) := fun v β i j p q => contrS_real _ _ _ _ _ (hh j (32 * i)) v β p q
  rw [sum_tiles (fun i j => if 32 * i ≤ R ∧ R < 32 * i + 128 ∧ 32 * j ≤ C ∧ C < 32 * j + 128
        then contrS (fun n t => (W n t : EReal)) (fun n => (b n : EReal)) (fun n t => (v1 n t : EReal) - (v0 n t : EReal)) (β1 - β0) (fun c r q => (X j c r q : EReal)) (32 * i) (R - 32 * i) (C - 32 * j) else 0)]
  simp only [← EReal.coe_sub, e, ← Finset.sum_filter, coreS_sub]
  refine sub_sums _ ⟨min (R / 32) 8 * 9 + min (C / 32) 8, ?_⟩ _ _ β1 β0
  have e1 : (min (R / 32) 8 * 9 + min (C / 32) 8) / 9 = min (R / 32) 8 := by omega
  have e2 : (min (R / 32) 8 * 9 + min (C / 32) 8) % 9 = min (C / 32) 8 := by omega
  rw [Finset.mem_filter, Finset.mem_range, e1, e2]
  omega

end Cert.KernelIdeal.Body
-- ==== Proof.KernelIdeal.Value.lean ====
module

public import proofs.«01_k».proof.Proof.KernelIdeal.Algebra

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Cert.KernelIdeal.Gen

/-! ## The run of the kernel, with its results -/

variable (m : (ℓ : Loc nD τ sig) → Buf (Elt Ideal) ℓ) (ρ : Dev nD → PrngReg)

/-- Every final state has the two results at what the last grid point stores, and the arguments unchanged. -/
theorem run_value : θ_run defs (onTc (τ := τ) (main (F := Ideal))) ⟨m, fun _ => 0, ρ⟩ (fun r => ∀ c : Dev nD,
      r.2.mem ((c.tc : Thread nD τ).loc main_v22_0) = headOut (stAt m c 81).1
      ∧ r.2.mem ((c.tc : Thread nD τ).loc main_v22_1) = segOut (stAt m c 81).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 7).trans (final7 m c), ((h.1 c).1 8).trans (final8 m c), h.2 c⟩)
    (θ_run_and (run_main m ρ) (unchanged m ρ))

end Cert.KernelIdeal.Body
-- ==== Proof.ReferenceIdeal.Taps.lean ====
module

public import proofs.«01_k».proof.Proof.Gen.ReferenceIdeal.Run
public import proofs.«01_k».proof.Proof.KernelIdeal.HostIn

@[expose] public section

set_option maxRecDepth 16384

noncomputable section

namespace Cert.ReferenceIdeal.Body

open Idealize.ShloMosaic Idealize.ShloMosaic.TcCoe Idealize.ShloMosaic.Tactic
open Idealize.SL.Sem
open Cert.ReferenceIdeal Cert.ReferenceIdeal.Gen Cert.ReferenceIdeal.Value

variable {F : FTy → Type} [FloatOps F]

/-! ## The reference's convolutions, tap by tap -/

/-- A tap lies in the first weights. -/
theorem slices_w1 (t : ℕ) : S32x3x3x3.Slices ![0, 0, t / 3 % 3, t % 3] S32x3x1x1 := by
  have h : ∀ a b : Fin 3, S32x3x3x3.Slices ![0, 0, a.val, b.val] S32x3x1x1 := by decide
  exact h ⟨t / 3 % 3, Nat.mod_lt _ (by decide)⟩ ⟨t % 3, Nat.mod_lt _ (by decide)⟩

/-- A tap lies in the padded image. -/
theorem slices_x1 (t : ℕ) : S3x130x130.Slices ![0, t / 3 % 3, t % 3] S3x128x128 := by
  have h : ∀ a b : Fin 3, S3x130x130.Slices ![0, a.val, b.val] S3x128x128 := by decide
  exact h ⟨t / 3 % 3, Nat.mod_lt _ (by decide)⟩ ⟨t % 3, Nat.mod_lt _ (by decide)⟩

/-- A tap lies in the second weights. -/
theorem slices_w2 (t : ℕ) : S2x32x3x3.Slices ![0, 0, t / 3 % 3, t % 3] S2x32x1x1 := by
  have h : ∀ a b : Fin 3, S2x32x3x3.Slices ![0, 0, a.val, b.val] S2x32x1x1 := by decide
  exact h ⟨t / 3 % 3, Nat.mod_lt _ (by decide)⟩ ⟨t % 3, Nat.mod_lt _ (by decide)⟩

/-- A tap lies in the padded hidden values. -/
theorem slices_x2 (t : ℕ) : S32x130x130.Slices ![0, t / 3 % 3, t % 3] S32x128x128 := by
  have h : ∀ a b : Fin 3, S32x130x130.Slices ![0, a.val, b.val] S32x128x128 := by decide
  exact h ⟨t / 3 % 3, Nat.mod_lt _ (by decide)⟩ ⟨t % 3, Nat.mod_lt _ (by decide)⟩

/-- The `t`-th tap of the first convolution. -/
def tap1 (W : Vec F S32x3x3x3 .f32) (Y : FVec F S3x130x130 .f32) (t : ℕ) : FVec F S32x128x128 .f32 :=
  Host.dotGeneral dot_S32x3_S3x128x128_S32x128x128_1_0_0_12_n_n none (shapeCast S32x3 (extractStridedSlice S32x3x1x1 ![0, 0, t / 3 % 3, t % 3] W (slices_w1 t)) shapeCasts_S32x3x1x1_S32x3) (extractStridedSlice S3x128x128 ![0, t / 3 % 3, t % 3] Y (slices_x1 t))

/-- The `t`-th tap of the second convolution. -/
def tap2 (W : Vec F S2x32x3x3 .f32) (Y : FVec F S32x130x130 .f32) (t : ℕ) : FVec F S2x128x128 .f32 :=
  Host.dotGeneral dot_S2x32_S32x128x128_S2x128x128_1_0_0_12_n_n none (shapeCast S2x32 (extractStridedSlice S2x32x1x1 ![0, 0, t / 3 % 3, t % 3] W (slices_w2 t)) shapeCasts_S2x32x1x1_S2x32) (extractStridedSlice S32x128x128 ![0, t / 3 % 3, t % 3] Y (slices_x2 t))

/-- Nine terms added to a first one, in order. -/
def red9 {s : Shape} (z : FVec F s .f32) (p : ℕ → FVec F s .f32) : FVec F s .f32 :=
  addf (addf (addf (addf (addf (addf (addf (addf (addf z (p 0)) (p 1)) (p 2)) (p 3)) (p 4)) (p 5)) (p 6)) (p 7)) (p 8)

/-- The hidden values of a tile, from its padded image. -/
def hidR (W : Vec F S32x3x3x3 .f32) (b : Vec F S32 .f32) (Y : FVec F S3x130x130 .f32) : FVec F S32x128x128 .f32 :=
  maximumf (addf (red9 (broadcastInDim S32x128x128 ![] bcast_S_S32x128x128 (constant S_ .f32 0x00000000#32)) (tap1 W Y))
    (broadcastInDim S32x128x128 ![0, 1, 2] bcast_S32x1x1_S32x128x128_0_1_2 (broadcastInDim S32x1x1 ![0] bcast_S32_S32x1x1_0 b))) (broadcastInDim S32x128x128 ![] bcast_S_S32x128x128 (constant S_ .f32 0x00000000#32))

/-- A tile's hidden values padded. -/
def padH (H : FVec F S32x128x128 .f32) : FVec F S32x130x130 .f32 :=
  pad S32x130x130 ![0, 1, 1] ![0, 1, 1] ![0, 0, 0] H (constant S_ .f32 0x00000000#32) pads_S32x128x128_S32x130x130_000_110_110 h_S_

/-- What a tile adds, from its padded hidden values. -/
def outR (W : Vec F S2x32x3x3 .f32) (b : Vec F S2 .f32) (Y : FVec F S32x130x130 .f32) : FVec F S2x128x128 .f32 :=
  addf (red9 (broadcastInDim S2x128x128 ![] bcast_S_S2x128x128 (constant S_ .f32 0x00000000#32)) (tap2 W Y))
    (broadcastInDim S2x128x128 ![0, 1, 2] bcast_S2x1x1_S2x128x128_0_1_2 (broadcastInDim S2x1x1 ![0] bcast_S2_S2x1x1_0 b))

/-- A tile's first row and column, as the loop states them. -/
def startR (o : IVec S_ 32) (r : IVec S_ 32) (c : IVec S_ 32) : Fin 3 → Int :=
  fun k => (((![o, select (cmpi .slt r (constantI S_ 32 0#32)) (addi (id r) (constantI S_ 32 384#32)) r, select (cmpi .slt c (constantI S_ 32 0#32)) (addi (id c) (constantI S_ 32 384#32)) c] : Fin 3 → (⟨S_, .i32⟩ : BufTy).Contents (Elt F))) k (Shape.Idx.first h_S_)).toInt

set_option maxHeartbeats 0 in
/-- The padded tile that a trip computes. -/
theorem v45_eq (V0 : Valuation τ sig (Elt F)) : res_main_while0b_v45 V0
    = pad S3x130x130 ![0, 1, 1] ![0, 1, 1] ![0, 0, 0] (Host.dynamicSlice S3x128x128 (V0 (Proc.devRef .tc main_v1_0)) (startR (F := F) (constantI S_ 32 0#32) (res_main_while0b_v33 V0) (res_main_while0b_v35 V0)) sliceFits_S3x384x384_S3x128x128) (constant S_ .f32 0x00000000#32) pads_S3x128x128_S3x130x130_000_110_110 h_S_ := rfl

set_option maxHeartbeats 0 in
/-- The padded hidden values that a trip computes. -/
theorem v97_eq (V0 : Valuation τ sig (Elt F)) : res_main_while0b_v97 V0 = padH (hidR (V0 (Proc.devRef .tc main_v1_1)) (V0 (Proc.devRef .tc main_v1_2)) (res_main_while0b_v45 V0)) := by
  unfold res_main_while0b_v97
  rfl

set_option maxHeartbeats 0 in
/-- A trip's `pred`, from the one before. -/
theorem step_eq (V0 : Valuation τ sig (Elt F)) : step_main_v1_7 V0
    = Host.dynamicUpdateSlice (V0 (Proc.devRef .tc main_v1_7))
        (addf (Host.dynamicSlice S2x128x128 (V0 (Proc.devRef .tc main_v1_7)) (startR (F := F) (constantI S_ 32 0#32) (res_main_while0b_v33 V0) (res_main_while0b_v35 V0)) sliceFits_S2x384x384_S2x128x128)
          (outR (V0 (Proc.devRef .tc main_v1_3)) (V0 (Proc.devRef .tc main_v1_4)) (res_main_while0b_v97 V0)))
        (startR (F := F) (constantI S_ 32 0#32) (res_main_while0b_v33 V0) (res_main_while0b_v35 V0)) updateFits_S2x384x384_S2x128x128 := by
  unfold step_main_v1_7
  rfl

end Cert.ReferenceIdeal.Body
-- ==== Proof.ReferenceIdeal.Index.lean ====
module

public import proofs.«01_k».proof.Proof.ReferenceIdeal.Taps

@[expose] public section

set_option maxRecDepth 16384

noncomputable section

namespace Cert.ReferenceIdeal.Body

open Idealize.ShloMosaic Idealize.ShloMosaic.TcCoe Idealize.ShloMosaic.Tactic
open Idealize.SL.Sem
open Cert.KernelIdeal.Body (hidS contrS imgS rdI rdW1 rdB1 rdW2 idx4_ext idx2_ext zeroPad)
open Cert.ReferenceIdeal Cert.ReferenceIdeal.Gen Cert.ReferenceIdeal.Value

/-! ## The reference's convolutions at an index -/

/-- Nine terms added, at an index. -/
theorem red9_apply {s : Shape} (z : FVec Ideal s .f32) (p : ℕ → FVec Ideal s .f32) (j : s.Idx) :
    red9 z p j = (z j : EReal) + ∑ t ∈ Finset.range 9, (p t j : EReal) := by
  simp only [red9, addf_apply, Ideal.addf_def, Finset.sum_range_succ, Finset.sum_range_zero, zero_add, add_assoc]

/-- A tap of the first convolution at an index. -/
theorem tap1_apply (W : Vec Ideal S32x3x3x3 .f32) (Y : FVec Ideal S3x130x130 .f32) (t : ℕ) (n : Fin 32) (p q : Fin 128) :
    tap1 W Y t (ix3 n p q) = ∑ k : Fin 3, (W (ix4 n k ⟨t / 3 % 3, Nat.mod_lt _ (by decide)⟩ ⟨t % 3, Nat.mod_lt _ (by decide)⟩) : EReal) * (Y (ix3 k ⟨p.val + t / 3 % 3, by omega⟩ ⟨q.val + t % 3, by omega⟩) : EReal) := by
  unfold tap1
  pointwise []
  refine Finset.sum_congr rfl fun k _ => ?_
  refine congr (congrArg (fun a b : EReal => a * b) (congrArg W (idx4_ext rfl rfl ?_ ?_))) (congrArg Y (Shape.idx3_ext ?_ ?_ ?_))
  all_goals first | rfl | exact Nat.add_comm _ _ | exact Nat.add_zero _ | exact Nat.zero_add _

/-- A tap of the second convolution at an index. -/
theorem tap2_apply (W : Vec Ideal S2x32x3x3 .f32) (Y : FVec Ideal S32x130x130 .f32) (t : ℕ) (o : Fin 2) (p q : Fin 128) :
    tap2 W Y t (ix3 o p q) = ∑ k : Fin 32, (W (ix4 o k ⟨t / 3 % 3, Nat.mod_lt _ (by decide)⟩ ⟨t % 3, Nat.mod_lt _ (by decide)⟩) : EReal) * (Y (ix3 k ⟨p.val + t / 3 % 3, by omega⟩ ⟨q.val + t % 3, by omega⟩) : EReal) := by
  unfold tap2
  pointwise []
  refine Finset.sum_congr rfl fun k _ => ?_
  refine congr (congrArg (fun a b : EReal => a * b) (congrArg W (idx4_ext rfl rfl ?_ ?_))) (congrArg Y (Shape.idx3_ext ?_ ?_ ?_))
  all_goals first | rfl | exact Nat.add_comm _ _ | exact Nat.add_zero _ | exact Nat.zero_add _

/-- A sum over 27 taps is nine sums over three channels. -/
theorem sum27 (f : ℕ → EReal) : ∑ t ∈ Finset.range 27, f t = ∑ s ∈ Finset.range 9, ∑ k : Fin 3, f (3 * s + k.val) := by
  simp only [Finset.sum_range_succ, Finset.sum_range_zero, zero_add, Fin.sum_univ_three, add_assoc, Nat.reduceMul, Nat.reduceAdd]
  rfl

/-- The reference's hidden values at an index. -/
theorem hidR_apply (W : Vec Ideal S32x3x3x3 .f32) (b : Vec Ideal S32 .f32) (Y : FVec Ideal S3x130x130 .f32) (X : ℕ → ℕ → ℕ → EReal) (lo : ℕ)
    (hY : ∀ (ci : Fin 3) (a c : Fin 130), Y (ix3 ci a c) = if 1 ≤ a.val ∧ a.val ≤ 128 ∧ 1 ≤ c.val ∧ c.val ≤ 128 then X ci.val (lo + a.val - 1) (c.val - 1) else 0)
    (n : Fin 32) (p q : Fin 128) : hidR W b Y (ix3 n p q) = hidS (rdW1 W) (rdB1 b) X lo (lo + 128) n.val (lo + p.val) q.val := by
  have hb : (broadcastInDim S32x128x128 ![0, 1, 2] bcast_S32x1x1_S32x128x128_0_1_2 (broadcastInDim S32x1x1 ![0] bcast_S32_S32x1x1_0 b)) (ix3 n p q) = rdB1 b n.val := by
    pointwise [rdB1]
    exact congrArg b (Shape.idx1_ext (Nat.mod_eq_of_lt n.isLt).symm)
  unfold hidR hidS
  pointwise []
  rw [red9_apply]
  have hz : (broadcastInDim S32x128x128 ![] bcast_S_S32x128x128 (constant S_ .f32 0x00000000#32 : FVec Ideal S_ .f32)) (ix3 n p q) = (0 : EReal) := by
    pointwise []
  rw [hz, zero_add, sum27]
  refine congrArg (fun z : EReal => max z 0) (congr (congrArg (fun a b : EReal => a + b) (Finset.sum_congr rfl fun s hs => ?_)) ?_)
  · have hs' := Finset.mem_range.mp hs
    rw [tap1_apply]
    refine Finset.sum_congr rfl fun k _ => ?_
    have hk := k.isLt
    refine congr (congrArg (fun a b : EReal => a * b) (congrArg W (idx4_ext ?_ ?_ ?_ ?_))) ?_
    · show n.val = n.val % 32; omega
    · show k.val = (3 * s + k.val) % 3; omega
    · show s / 3 % 3 = (3 * s + k.val) / 9 % 3; omega
    · show s % 3 = (3 * s + k.val) / 3 % 3; omega
    · rw [hY]
      have e0 : (3 * s + k.val) % 3 = k.val := by omega
      have e1 : (3 * s + k.val) / 9 = s / 3 % 3 := by omega
      have e2 : (3 * s + k.val) / 3 % 3 = s % 3 := by omega
      rw [e0, e1, e2]
      refine if_congr ?_ ?_ rfl
      · show (1 ≤ p.val + s / 3 % 3 ∧ p.val + s / 3 % 3 ≤ 128 ∧ 1 ≤ q.val + s % 3 ∧ q.val + s % 3 ≤ 128) ↔ _
        omega
      · show X k.val (lo + (p.val + s / 3 % 3) - 1) _ = X k.val (lo + p.val + s / 3 % 3 - 1) _
        rw [Nat.add_assoc]
  · first | exact hb | (refine congrArg b (Shape.idx1_ext (Nat.mod_eq_of_lt n.isLt).symm))

/-- The padded hidden values at an index. -/
theorem padH_apply (H : FVec Ideal S32x128x128 .f32) (G : ℕ → ℕ → ℕ → EReal) (hH : ∀ (n : Fin 32) (p q : Fin 128), H (ix3 n p q) = G n.val p.val q.val)
    (n : Fin 32) (a c : Fin 130) : padH H (ix3 n a c) = if 1 ≤ a.val ∧ a.val ≤ 128 ∧ 1 ≤ c.val ∧ c.val ≤ 128 then G n.val (a.val - 1) (c.val - 1) else 0 := by
  have ha := a.isLt
  have hc := c.isLt
  unfold padH
  pointwise [hH]
  split_ifs <;> first | rfl | (exfalso; omega)

/-- What the reference adds for a tile, at an index. -/
theorem outR_apply (W1 : ℕ → ℕ → EReal) (b1 : ℕ → EReal) (X : ℕ → ℕ → ℕ → EReal) (lo : ℕ) (W : Vec Ideal S2x32x3x3 .f32) (b : Vec Ideal S2 .f32) (H : FVec Ideal S32x128x128 .f32)
    (hH : ∀ (n : Fin 32) (p q : Fin 128), H (ix3 n p q) = hidS W1 b1 X lo (lo + 128) n.val (lo + p.val) q.val)
    (o : Fin 2) (p q : Fin 128) : outR W b (padH H) (ix3 o p q) = contrS W1 b1 (rdW2 W o.val) (b (ix1 o)) X lo p.val q.val := by
  unfold outR contrS
  pointwise []
  rw [red9_apply]
  have hz : (broadcastInDim S2x128x128 ![] bcast_S_S2x128x128 (constant S_ .f32 0x00000000#32 : FVec Ideal S_ .f32)) (ix3 o p q) = (0 : EReal) := by
    pointwise []
  rw [hz, zero_add, add_comm]
  refine congrArg (fun z : EReal => (b (ix1 o) : EReal) + z) (Finset.sum_congr rfl fun s _ => ?_)
  rw [tap2_apply, ← Fin.sum_univ_eq_sum_range (fun n => rdW2 W o.val n s * hidS W1 b1 X lo (lo + 128) n (lo + (p.val + s / 3 % 3 - 1)) (q.val + s % 3 - 1)) 32]
  have e : ∀ k : Fin 32, (padH H (ix3 k ⟨p.val + s / 3 % 3, by omega⟩ ⟨q.val + s % 3, by omega⟩) : EReal) = if 1 ≤ p.val + s / 3 % 3 ∧ 1 ≤ q.val + s % 3 ∧ p.val + s / 3 % 3 ≤ 128 ∧ q.val + s % 3 ≤ 128 then hidS W1 b1 X lo (lo + 128) k.val (lo + (p.val + s / 3 % 3 - 1)) (q.val + s % 3 - 1) else 0 := by
    intro k
    rw [padH_apply H (fun n r q => hidS W1 b1 X lo (lo + 128) n (lo + r) q) hH]
    refine if_congr ?_ rfl rfl
    show (1 ≤ p.val + s / 3 % 3 ∧ p.val + s / 3 % 3 ≤ 128 ∧ 1 ≤ q.val + s % 3 ∧ q.val + s % 3 ≤ 128) ↔ _
    omega
  have ew : ∀ k : Fin 32, (W (ix4 o k ⟨s / 3 % 3, Nat.mod_lt _ (by decide)⟩ ⟨s % 3, Nat.mod_lt _ (by decide)⟩) : EReal) = rdW2 W o.val k.val s := fun k =>
    congrArg W (idx4_ext (Nat.mod_eq_of_lt o.isLt).symm (Nat.mod_eq_of_lt k.isLt).symm rfl rfl)
  simp only [e, ew]
  split_ifs with hc
  · rfl
  · simp only [mul_zero, Finset.sum_const_zero]

end Cert.ReferenceIdeal.Body
-- ==== Proof.ReferenceIdeal.Step.lean ====
module

public import proofs.«01_k».proof.Proof.ReferenceIdeal.Index

@[expose] public section

set_option maxRecDepth 16384

noncomputable section

namespace Cert.ReferenceIdeal.Body

open Idealize.ShloMosaic Idealize.ShloMosaic.TcCoe Idealize.ShloMosaic.Tactic
open Idealize.SL.Sem
open Cert.KernelIdeal.Body (hidS contrS imgS rdI rdW1 rdB1 rdW2 idx4_ext idx2_ext zeroPad)
open Cert.ReferenceIdeal Cert.ReferenceIdeal.Gen Cert.ReferenceIdeal.Value

/-! ## One trip of the reference's loop at an index -/

/-- A tile read at a start inside the array, at an index. -/
theorem slice3_apply {n : ℕ} (x : Vec Ideal (⟨3, ![n, 384, 384]⟩ : Shape) .f32) (start : Fin 3 → Int) (h : (⟨3, ![n, 384, 384]⟩ : Shape).Slices (fun _ => 0) (⟨3, ![n, 128, 128]⟩ : Shape)) (a b : ℕ)
    (h0 : start 0 = (0 : ℕ)) (h1 : start 1 = (a : ℕ)) (h2 : start 2 = (b : ℕ)) (ha : a + 128 ≤ 384) (hb : b + 128 ≤ 384) (o : Fin n) (p q : Fin 128) :
    Host.dynamicSlice (⟨3, ![n, 128, 128]⟩ : Shape) x start h (ix3 o p q) = x (ix3 o ⟨a + p.val, by omega⟩ ⟨b + q.val, by omega⟩) := by
  rw [Host.dynamicSlice_apply]
  have c0 := Host.clampedStart_of_le (s := (⟨3, ![n, 384, 384]⟩ : Shape)) (t := (⟨3, ![n, 128, 128]⟩ : Shape)) h.1 start 0 0 h0 (by show 0 + n ≤ n; omega)
  have c1 := Host.clampedStart_of_le (s := (⟨3, ![n, 384, 384]⟩ : Shape)) (t := (⟨3, ![n, 128, 128]⟩ : Shape)) h.1 start 1 a h1 ha
  have c2 := Host.clampedStart_of_le (s := (⟨3, ![n, 384, 384]⟩ : Shape)) (t := (⟨3, ![n, 128, 128]⟩ : Shape)) h.1 start 2 b h2 hb
  refine congrArg x (Shape.idx3_ext ?_ ?_ ?_)
  · show Host.clampedStart _ _ h.1 start 0 + o.val = o.val; rw [c0, Nat.zero_add]
  · show Host.clampedStart _ _ h.1 start 1 + p.val = a + p.val; rw [c1]
  · show Host.clampedStart _ _ h.1 start 2 + q.val = b + q.val; rw [c2]

/-- A tile written at a start inside the array, at an index. -/
theorem update3_apply (x : Vec Ideal S2x384x384 .f32) (u : Vec Ideal S2x128x128 .f32) (start : Fin 3 → Int) (h : S2x384x384.Slices (fun _ => 0) S2x128x128) (a b : ℕ)
    (h0 : start 0 = (0 : ℕ)) (h1 : start 1 = (a : ℕ)) (h2 : start 2 = (b : ℕ)) (ha : a + 128 ≤ 384) (hb : b + 128 ≤ 384) (o : Fin 2) (R C : Fin 384) :
    Host.dynamicUpdateSlice x u start h (ix3 o R C) = if hc : a ≤ R.val ∧ R.val < a + 128 ∧ b ≤ C.val ∧ C.val < b + 128
      then u (ix3 o ⟨R.val - a, by omega⟩ ⟨C.val - b, by omega⟩) else x (ix3 o R C) := by
  rw [Host.dynamicUpdateSlice_apply]
  have c0 := Host.clampedStart_of_le (s := S2x384x384) (t := S2x128x128) h.1 start 0 0 h0 (by show 0 + 2 ≤ 2; omega)
  have c1 := Host.clampedStart_of_le (s := S2x384x384) (t := S2x128x128) h.1 start 1 a h1 ha
  have c2 := Host.clampedStart_of_le (s := S2x384x384) (t := S2x128x128) h.1 start 2 b h2 hb
  have ho := o.isLt
  by_cases hc : a ≤ R.val ∧ R.val < a + 128 ∧ b ≤ C.val ∧ C.val < b + 128
  · rw [dif_pos hc, dif_pos (Fin.forall_fin_succ.mpr ⟨?_, Fin.forall_fin_succ.mpr ⟨?_, Fin.forall_fin_succ.mpr ⟨?_, fun k => k.elim0⟩⟩⟩)]
    · refine congrArg u (Shape.idx3_ext ?_ ?_ ?_)
      · show o.val - Host.clampedStart _ _ h.1 start 0 = o.val; rw [c0, Nat.sub_zero]
      · show R.val - Host.clampedStart _ _ h.1 start 1 = R.val - a; rw [c1]
      · show C.val - Host.clampedStart _ _ h.1 start 2 = C.val - b; rw [c2]
    · show Host.clampedStart _ _ h.1 start 0 ≤ o.val ∧ o.val < Host.clampedStart _ _ h.1 start 0 + 2
      rw [c0]; omega
    · show Host.clampedStart _ _ h.1 start 1 ≤ R.val ∧ R.val < Host.clampedStart _ _ h.1 start 1 + 128
      rw [c1]; omega
    · show Host.clampedStart _ _ h.1 start 2 ≤ C.val ∧ C.val < Host.clampedStart _ _ h.1 start 2 + 128
      rw [c2]; omega
  · rw [dif_neg hc, dif_neg]
    intro hall
    have k1 : Host.clampedStart _ _ h.1 start 1 ≤ R.val ∧ R.val < Host.clampedStart _ _ h.1 start 1 + 128 := hall 1
    have k2 : Host.clampedStart _ _ h.1 start 2 ≤ C.val ∧ C.val < Host.clampedStart _ _ h.1 start 2 + 128 := hall 2
    rw [c1] at k1
    rw [c2] at k2
    exact hc ⟨k1.1, k1.2, k2.1, k2.2⟩

/-- Tile `n` starts at row `32 (n / 9)` and column `32 (n % 9)`. -/
theorem startR_eq (V0 : Valuation τ sig (Elt Ideal)) (n : ℕ) (hn : n < 81) (h6 : V0 (Proc.devRef .tc main_v1_6) = fun _ => BitVec.ofNat 32 n) :
    startR (F := Ideal) (constantI S_ 32 0#32) (res_main_while0b_v33 V0) (res_main_while0b_v35 V0) 0 = (0 : ℕ)
    ∧ startR (F := Ideal) (constantI S_ 32 0#32) (res_main_while0b_v33 V0) (res_main_while0b_v35 V0) 1 = (32 * (n / 9) : ℕ)
    ∧ startR (F := Ideal) (constantI S_ 32 0#32) (res_main_while0b_v33 V0) (res_main_while0b_v35 V0) 2 = (32 * (n % 9) : ℕ) := by
  unfold res_main_while0b_v33 res_main_while0b_v35
  rw [h6]
  have h : ∀ n : Fin 81, startR (F := Ideal) (constantI S_ 32 0#32) (muli (Host.divsi (fun _ => BitVec.ofNat 32 n.val) (constantI S_ 32 9#32)) (constantI S_ 32 32#32)) (muli (Host.remsi (fun _ => BitVec.ofNat 32 n.val) (constantI S_ 32 9#32)) (constantI S_ 32 32#32)) 0 = (0 : ℕ)
      ∧ startR (F := Ideal) (constantI S_ 32 0#32) (muli (Host.divsi (fun _ => BitVec.ofNat 32 n.val) (constantI S_ 32 9#32)) (constantI S_ 32 32#32)) (muli (Host.remsi (fun _ => BitVec.ofNat 32 n.val) (constantI S_ 32 9#32)) (constantI S_ 32 32#32)) 1 = (32 * (n.val / 9) : ℕ)
      ∧ startR (F := Ideal) (constantI S_ 32 0#32) (muli (Host.divsi (fun _ => BitVec.ofNat 32 n.val) (constantI S_ 32 9#32)) (constantI S_ 32 32#32)) (muli (Host.remsi (fun _ => BitVec.ofNat 32 n.val) (constantI S_ 32 9#32)) (constantI S_ 32 32#32)) 2 = (32 * (n.val % 9) : ℕ) := by
    decide +kernel
  exact h ⟨n, hn⟩

/-- The padded tile of the image at an index. -/
theorem padX_apply (T : FVec Ideal S3x128x128 .f32) (a c : Fin 130) (ci : Fin 3) :
    (pad S3x130x130 ![0, 1, 1] ![0, 1, 1] ![0, 0, 0] T (constant S_ .f32 0x00000000#32 : FVec Ideal S_ .f32) pads_S3x128x128_S3x130x130_000_110_110 h_S_) (ix3 ci a c)
      = if h : 1 ≤ a.val ∧ a.val ≤ 128 ∧ 1 ≤ c.val ∧ c.val ≤ 128 then T (ix3 ci ⟨a.val - 1, by omega⟩ ⟨c.val - 1, by omega⟩) else (0 : EReal) := by
  have ha := a.isLt
  have hc := c.isLt
  pointwise []
  split_ifs <;> first | rfl | (exfalso; omega)

/-- What tile `n` adds at an index of `pred`. -/
def tileR (x : Vec Ideal S3x384x384 .f32) (W1 : Vec Ideal S32x3x3x3 .f32) (b1 : Vec Ideal S32 .f32) (W2 : Vec Ideal S2x32x3x3 .f32) (b2 : Vec Ideal S2 .f32) (n : ℕ) (o : Fin 2) (R C : ℕ) : EReal :=
  if 32 * (n / 9) ≤ R ∧ R < 32 * (n / 9) + 128 ∧ 32 * (n % 9) ≤ C ∧ C < 32 * (n % 9) + 128
    then contrS (rdW1 W1) (rdB1 b1) (rdW2 W2 o.val) (b2 (ix1 o)) (imgS x (n % 9)) (32 * (n / 9)) (R - 32 * (n / 9)) (C - 32 * (n % 9)) else 0

/-- A trip adds its tile to `pred`. -/
theorem step_apply (V0 : Valuation τ sig (Elt Ideal)) (n : ℕ) (hn : n < 81) (h6 : V0 (Proc.devRef .tc main_v1_6) = fun _ => BitVec.ofNat 32 n)
    (x : Vec Ideal S3x384x384 .f32) (W1 : Vec Ideal S32x3x3x3 .f32) (b1 : Vec Ideal S32 .f32) (W2 : Vec Ideal S2x32x3x3 .f32) (b2 : Vec Ideal S2 .f32) (P : Vec Ideal S2x384x384 .f32)
    (h0 : V0 (Proc.devRef .tc main_v1_0) = x) (h1 : V0 (Proc.devRef .tc main_v1_1) = W1) (h2 : V0 (Proc.devRef .tc main_v1_2) = b1) (h3 : V0 (Proc.devRef .tc main_v1_3) = W2) (h4 : V0 (Proc.devRef .tc main_v1_4) = b2)
    (h7 : V0 (Proc.devRef .tc main_v1_7) = P) (o : Fin 2) (R C : Fin 384) :
    (step_main_v1_7 V0 : Vec Ideal S2x384x384 .f32) (ix3 o R C) = (P (ix3 o R C) : EReal) + tileR x W1 b1 W2 b2 n o R.val C.val := by
  obtain ⟨s0, s1, s2⟩ := startR_eq V0 n hn h6
  rw [step_eq, v97_eq, v45_eq, h0, h1, h2, h3, h4, h7]
  generalize startR (F := Ideal) (constantI S_ 32 0#32) (res_main_while0b_v33 V0) (res_main_while0b_v35 V0) = st at s0 s1 s2 ⊢
  have hX := slice3_apply x st sliceFits_S3x384x384_S3x128x128 _ _ s0 s1 s2 (by omega) (by omega)
  have hP := slice3_apply P st sliceFits_S2x384x384_S2x128x128 _ _ s0 s1 s2 (by omega) (by omega)
  generalize Host.dynamicSlice S3x128x128 x st sliceFits_S3x384x384_S3x128x128 = XT at hX ⊢
  generalize Host.dynamicSlice S2x128x128 P st sliceFits_S2x384x384_S2x128x128 = PT at hP ⊢
  rw [update3_apply P _ st updateFits_S2x384x384_S2x128x128 _ _ s0 s1 s2 (by omega) (by omega)]
  have hR := R.isLt
  have hC := C.isLt
  unfold tileR
  split_ifs with hc
  · rw [addf_apply, Ideal.addf_def, hP]
    refine congr (congrArg (fun a b : EReal => a + b) (congrArg P (Shape.idx3_ext rfl ?_ ?_))) ?_
    · show 32 * (n / 9) + (R.val - 32 * (n / 9)) = R.val; omega
    · show 32 * (n % 9) + (C.val - 32 * (n % 9)) = C.val; omega
    · refine outR_apply (rdW1 W1) (rdB1 b1) (imgS x (n % 9)) (32 * (n / 9)) W2 b2 _ (hidR_apply W1 b1 _ (imgS x (n % 9)) (32 * (n / 9)) ?_) o ⟨R.val - 32 * (n / 9), by omega⟩ ⟨C.val - 32 * (n % 9), by omega⟩
      intro ci a c
      rw [padX_apply]
      split_ifs with hk
      · rw [hX]
        unfold imgS rdI
        refine congrArg x (Shape.idx3_ext ?_ ?_ ?_)
        · exact (Nat.mod_eq_of_lt ci.isLt).symm
        · show 32 * (n / 9) + (a.val - 1) = (32 * (n / 9) + a.val - 1) % 384; omega
        · show 32 * (n % 9) + (c.val - 1) = (32 * (n % 9) + (c.val - 1)) % 384; omega
      · rfl
  · exact (add_zero (P (ix3 o R C) : EReal)).symm

end Cert.ReferenceIdeal.Body
-- ==== Proof.ReferenceIdeal.Loop.lean ====
module

public import proofs.«01_k».proof.Proof.ReferenceIdeal.Step

@[expose] public section

set_option maxRecDepth 16384

noncomputable section

namespace Cert.ReferenceIdeal.Body

open Idealize.ShloMosaic Idealize.ShloMosaic.TcCoe Idealize.ShloMosaic.Tactic
open Idealize.SL.Sem
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.KernelIdeal.Body (hidS contrS imgS rdI rdW1 rdB1 rdW2 idx4_ext idx2_ext zeroPad)
open Cert.ReferenceIdeal Cert.ReferenceIdeal.Gen Cert.ReferenceIdeal.Value

/-! ## The reference's loop -/

variable (m : (ℓ : Loc nD τ sig) → Buf (Elt Ideal) ℓ)

/-- The loop is entered with this argument as it is. -/
theorem entry_0 (c : Dev nD) : entryContents preI m c (Proc.devRef .tc main_v1_0) = m ((c.tc : Thread nD τ).loc main_arg0) := by
  simp only [entryContents, afterL_cons, afterL_nil]
  after_reads_simp
  rfl
/-- The loop is entered with this argument as it is. -/
theorem entry_1 (c : Dev nD) : entryContents preI m c (Proc.devRef .tc main_v1_1) = m ((c.tc : Thread nD τ).loc main_arg1) := by
  simp only [entryContents, afterL_cons, afterL_nil]
  after_reads_simp
  rfl
/-- The loop is entered with this argument as it is. -/
theorem entry_2 (c : Dev nD) : entryContents preI m c (Proc.devRef .tc main_v1_2) = m ((c.tc : Thread nD τ).loc main_arg2) := by
  simp only [entryContents, afterL_cons, afterL_nil]
  after_reads_simp
  rfl
/-- The loop is entered with this argument as it is. -/
theorem entry_3 (c : Dev nD) : entryContents preI m c (Proc.devRef .tc main_v1_3) = m ((c.tc : Thread nD τ).loc main_arg3) := by
  simp only [entryContents, afterL_cons, afterL_nil]
  after_reads_simp
  rfl
/-- The loop is entered with this argument as it is. -/
theorem entry_4 (c : Dev nD) : entryContents preI m c (Proc.devRef .tc main_v1_4) = m ((c.tc : Thread nD τ).loc main_arg4) := by
  simp only [entryContents, afterL_cons, afterL_nil]
  after_reads_simp
  rfl
/-- The loop is entered with the counter at zero. -/
theorem entry_6 (c : Dev nD) : entryContents preI m c (Proc.devRef .tc main_v1_6) = fun _ => BitVec.ofNat 32 0 := by
  simp only [entryContents, afterL_cons, afterL_nil]
  after_reads_simp
  rfl
/-- The loop is entered with `pred` at zero. -/
theorem entry_7 (c : Dev nD) : entryContents preI m c (Proc.devRef .tc main_v1_7) = broadcastInDim S2x384x384 ![] bcast_S_S2x384x384 (constant S_ .f32 0x00000000#32 : FVec Ideal S_ .f32) := by
  simp only [entryContents, afterL_cons, afterL_nil]
  after_reads_simp
  rfl

/-- After `n` trips the counter is `n`, the arguments are kept, and `pred` is the sum of `n` tiles. -/
theorem loop_apply (c : Dev nD) : ∀ n : ℕ, n ≤ 81 →
    (STEP^[n] (entryContents preI m c)) (Proc.devRef .tc main_v1_0) = m ((c.tc : Thread nD τ).loc main_arg0)
    ∧ (STEP^[n] (entryContents preI m c)) (Proc.devRef .tc main_v1_1) = m ((c.tc : Thread nD τ).loc main_arg1)
    ∧ (STEP^[n] (entryContents preI m c)) (Proc.devRef .tc main_v1_2) = m ((c.tc : Thread nD τ).loc main_arg2)
    ∧ (STEP^[n] (entryContents preI m c)) (Proc.devRef .tc main_v1_3) = m ((c.tc : Thread nD τ).loc main_arg3)
    ∧ (STEP^[n] (entryContents preI m c)) (Proc.devRef .tc main_v1_4) = m ((c.tc : Thread nD τ).loc main_arg4)
    ∧ (STEP^[n] (entryContents preI m c)) (Proc.devRef .tc main_v1_6) = (fun _ => BitVec.ofNat 32 n)
    ∧ ∀ (o : Fin 2) (R C : Fin 384), ((STEP^[n] (entryContents preI m c)) (Proc.devRef .tc main_v1_7) : Vec Ideal S2x384x384 .f32) (ix3 o R C)
      = ∑ t ∈ Finset.range n, tileR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t o R.val C.val := by
  intro n
  induction n with
  | zero =>
    intro _
    refine ⟨entry_0 m c, entry_1 m c, entry_2 m c, entry_3 m c, entry_4 m c, entry_6 m c, fun o R C => ?_⟩
    rw [Function.iterate_zero, id, entry_7, Finset.sum_range_zero]
    pointwise []
  | succ n ih =>
    intro hn
    obtain ⟨a0, a1, a2, a3, a4, a6, a7⟩ := ih (by omega)
    rw [Function.iterate_succ_apply']
    generalize STEP^[n] (entryContents preI m c) = V0 at a0 a1 a2 a3 a4 a6 a7 ⊢
    refine ⟨(STEP_main_v1_0 V0).trans a0, (STEP_main_v1_1 V0).trans a1, (STEP_main_v1_2 V0).trans a2, (STEP_main_v1_3 V0).trans a3, (STEP_main_v1_4 V0).trans a4, ?_, fun o R C => ?_⟩
    · rw [STEP_main_v1_6]
      unfold step_main_v1_6
      rw [a6]
      funext i
      show BitVec.ofNat 32 n + 1#32 = BitVec.ofNat 32 (n + 1)
      exact (BitVec.ofNat_add n 1).symm
    · rw [STEP_main_v1_7, Finset.sum_range_succ, ← a7]
      exact step_apply V0 n (by omega) a6 _ _ _ _ _ _ a0 a1 a2 a3 a4 rfl o R C

/-- The reference's second result at an index. -/
theorem out6_apply (c : Dev nD) (R C : Fin 384) :
    (out_main_v6 (STEP^[81] (entryContents preI m c)) : Vec Ideal S384x384 .f32) (ix2 R C)
      = (∑ t ∈ Finset.range 81, tileR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t 1 R.val C.val)
        - ∑ t ∈ Finset.range 81, tileR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t 0 R.val C.val := by
  have h := (loop_apply m c 81 le_rfl).2.2.2.2.2.2
  rw [← h 1 R C, ← h 0 R C]
  generalize STEP^[81] (entryContents preI m c) = V0
  unfold out_main_v6
  pointwise []

end Cert.ReferenceIdeal.Body
-- ==== Proof.ReferenceIdeal.Head.lean ====
module

public import proofs.«01_k».proof.Proof.KernelIdeal.Head
public import proofs.«01_k».proof.Proof.ReferenceIdeal.Loop

@[expose] public section

set_option maxRecDepth 16384

noncomputable section

namespace Cert.ReferenceIdeal.Body

open Idealize.ShloMosaic Idealize.ShloMosaic.TcCoe Idealize.ShloMosaic.Tactic
open Idealize.SL.Sem
open Cert.ReferenceIdeal Cert.ReferenceIdeal.Gen Cert.ReferenceIdeal.Value
open Cert.KernelIdeal.Body (pd headS)

/-! ## The reference's first result, from its second -/

/-- The positive part. -/
def reluR (S : FVec Ideal S384x384 .f32) : FVec Ideal S384x384 .f32 := maximumf S (broadcastInDim S384x384 ![] bcast_S_S384x384 (constant S_ .f32 0x00000000#32))

/-- The positive part, padded. -/
def padR (S : FVec Ideal S384x384 .f32) : FVec Ideal S386x386 .f32 := pad S386x386 ![1, 1] ![1, 1] ![0, 0] (reluR S) (constant S_ .f32 0x00000000#32) pads_S384x384_S386x386_110_110 h_S_

/-- The first result, from the second and its padded positive part. -/
def headR (S : FVec Ideal S384x384 .f32) (P : FVec Ideal S386x386 .f32) : FVec Ideal S1x384x384 .f32 :=
  broadcastInDim S1x384x384 ![1, 2] bcast_S384x384_S1x384x384_1_2 (mulf (reluR S) (uitofp .f32 (cmpf .ogt S
    (maximumf (maximumf (maximumf (maximumf (maximumf (maximumf (maximumf (maximumf (broadcastInDim S384x384 ![] bcast_S_S384x384 (constant S_ .f32 0x00000000#32))
      (extractStridedSlice S384x384 ![0, 0] P slices_S386x386_S384x384_0_0)) (extractStridedSlice S384x384 ![0, 1] P slices_S386x386_S384x384_0_1)) (extractStridedSlice S384x384 ![0, 2] P slices_S386x386_S384x384_0_2))
      (extractStridedSlice S384x384 ![1, 0] P slices_S386x386_S384x384_1_0)) (extractStridedSlice S384x384 ![1, 2] P slices_S386x386_S384x384_1_2)) (extractStridedSlice S384x384 ![2, 0] P slices_S386x386_S384x384_2_0))
      (extractStridedSlice S384x384 ![2, 1] P slices_S386x386_S384x384_2_1)) (extractStridedSlice S384x384 ![2, 2] P slices_S386x386_S384x384_2_2)))))

/-- The first result is read from the second. -/
theorem out30_eq (V0 : Valuation τ sig (Elt Ideal)) : out_main_v30 V0 = headR (out_main_v6 V0) (padR (out_main_v6 V0)) := rfl

/-- The positive part at an index. -/
theorem reluR_apply (S : FVec Ideal S384x384 .f32) (R C : Fin 384) : reluR S (ix2 R C) = max (S (ix2 R C) : EReal) 0 := by
  unfold reluR
  pointwise []

/-- The padded positive part at an index. -/
theorem padR_apply (S : FVec Ideal S384x384 .f32) (a b : Fin 386) : padR S (ix2 a b) = pd S a.val b.val := by
  have hr := reluR_apply S
  have ha := a.isLt
  have hb := b.isLt
  unfold padR pd
  generalize reluR S = P at hr ⊢
  pointwise [hr]
  by_cases h : 1 ≤ a.val ∧ a.val ≤ 384 ∧ 1 ≤ b.val ∧ b.val ≤ 384
  · rw [dif_pos h]
    split_ifs <;> first | rfl | (exfalso; omega)
  · rw [dif_neg h]
    split_ifs <;> first | rfl | (exfalso; omega)

/-- A true comparison converts to one. -/
theorem one_flag : (FloatOps.uitofp .f32 (BitVec.ofBool true) : Ideal .f32) = (1 : EReal) := by
  show (((BitVec.ofBool true).toNat : ℝ) : EReal) = 1
  simp
/-- A false comparison converts to zero. -/
theorem zero_flag : (FloatOps.uitofp .f32 (BitVec.ofBool false) : Ideal .f32) = (0 : EReal) := by
  show (((BitVec.ofBool false).toNat : ℝ) : EReal) = 0
  simp

/-- The first result from the second, at an index. -/
theorem headR_apply (S : FVec Ideal S384x384 .f32) (R C : Fin 384) : headR S (padR S) (ix3 0 R C) = headS S R C := by
  have hr := reluR_apply S
  have hp := padR_apply S
  unfold headR headS Cert.KernelIdeal.Body.pool
  generalize reluR S = P at hr ⊢
  generalize padR S = Q at hp ⊢
  pointwise [hr, hp]
  generalize max (max (max (max (max (max (max (max (0 : EReal) (pd S R.val C.val)) (pd S R.val (1 + C.val))) (pd S R.val (2 + C.val))) (pd S (1 + R.val) C.val)) (pd S (1 + R.val) (2 + C.val))) (pd S (2 + R.val) C.val)) (pd S (2 + R.val) (1 + C.val))) (pd S (2 + R.val) (2 + C.val)) = M
  split_ifs with h
  · rw [decide_eq_true h]
    exact (congrArg (fun z : EReal => max (S (ix2 R C) : EReal) 0 * z) one_flag).trans (mul_one _)
  · rw [decide_eq_false h]
    exact (congrArg (fun z : EReal => max (S (ix2 R C) : EReal) 0 * z) zero_flag).trans (mul_zero _)

/-- The reference's first result at an index. -/
theorem out30_apply (V0 : Valuation τ sig (Elt Ideal)) (R C : Fin 384) : (out_main_v30 V0 : Vec Ideal S1x384x384 .f32) (ix3 0 R C) = headS (out_main_v6 V0) R C := by
  rw [out30_eq, headR_apply]

end Cert.ReferenceIdeal.Body
-- ==== Proof.Inputs.lean ====
module

public import proofs.«01_k».proof.Proof.Gen.Pre_inputs_finite
public import Idealize.ShloMosaic.Lib.ReduceAll
public import proofs.«01_k».proof.Proof.KernelIdeal.HostIn

@[expose] public section

set_option maxRecDepth 16384

noncomputable section

namespace Cert.Pre_inputs_finite.Body

open Idealize.ShloMosaic Idealize.ShloMosaic.TcCoe Idealize.ShloMosaic.Tactic
open Cert.Pre_inputs_finite Cert.Pre_inputs_finite.Gen

/-! ## What the precondition says -/

/-- A conjunction of two bits is one when both are. -/
theorem andi_eq_one {a b : BitVec 1} : IntOp.andi a b = 1#1 ↔ a = 1#1 ∧ b = 1#1 := by revert a b; decide

/-- A value whose magnitude is below infinity is real. -/
theorem real_of_abs (z : EReal) (h : Ideal.cmp .olt (max z (-z)) (Ideal.ofBits .f32 0x7F800000#32) = 1#1) : ∃ r : ℝ, z = (r : EReal) := by
  have htop : Ideal.ofBits .f32 0x7F800000#32 = ⊤ := by simp [Ideal.ofBits, Ideal.ieee]
  rw [htop] at h
  unfold Ideal.cmp at h
  induction z with
  | bot => exfalso; revert h; simp
  | top => exfalso; revert h; simp
  | coe r => exact ⟨r, rfl⟩

instance : Subsingleton S_.Idx := ⟨fun a b => funext fun k => k.elim0⟩

/-- Under the precondition the image, both weights and the first bias are real. -/
theorem reals (x : FVec Ideal S3x384x384 .f32) (W1 : FVec Ideal S32x3x3x3 .f32) (b1 : FVec Ideal S32 .f32) (W2 : FVec Ideal S2x32x3x3 .f32) (b2 : FVec Ideal S2 .f32)
    (h : fn (F := Ideal) x W1 b1 W2 b2 = fun _ => 1#1) :
    (∀ i, ∃ r : ℝ, (x i : EReal) = r) ∧ (∀ i, ∃ r : ℝ, (W1 i : EReal) = r) ∧ (∀ i, ∃ r : ℝ, (b1 i : EReal) = r) ∧ (∀ i, ∃ r : ℝ, (W2 i : EReal) = r) := by
  have h0 := congrFun h (Shape.Idx.first h_S_)
  unfold fn fn_part1 at h0
  obtain ⟨h1, hd⟩ := andi_eq_one.mp h0
  obtain ⟨h2, hc⟩ := andi_eq_one.mp h1
  obtain ⟨ha, hb⟩ := andi_eq_one.mp h2
  exact ⟨fun i => real_of_abs _ (Host.reduce_andi_all _ _ _ _ _ ha i), fun i => real_of_abs _ (Host.reduce_andi_all _ _ _ _ _ hb i),
    fun i => real_of_abs _ (Host.reduce_andi_all _ _ _ _ _ hc i), fun i => real_of_abs _ (Host.reduce_andi_all _ _ _ _ _ hd i)⟩

end Cert.Pre_inputs_finite.Body
-- ==== Proof.Equal.lean ====
module

public import proofs.«01_k».proof.Proof.KernelIdeal.Value
public import proofs.«01_k».proof.Proof.ReferenceIdeal.Head
public import proofs.«01_k».proof.Proof.Inputs

@[expose] public section

set_option maxRecDepth 16384

noncomputable section

namespace Cert.Equal

open Idealize.ShloMosaic Idealize.ShloMosaic.TcCoe Idealize.ShloMosaic.Tactic
open Idealize.SL.Sem
open Cert.KernelIdeal.Body (stAt segOut headOut gX gW1 gB1 gW2 gB2 rdI rdW1 rdB1 rdW2 imgS contrS seg_args seg_alg headS head_apply idx2_ext)
open Cert.ReferenceIdeal.Body (tileR out6_apply out30_apply)
open Cert.ReferenceIdeal.Value (STEP preI out_main_v6 out_main_v30)
open Idealize.ShloMosaic.StableHlo

/-! ## The two programs' results are equal -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The second results, under arguments that agree and are real where the precondition says so. -/
theorem seg_eq (c : Dev Cert.KernelIdeal.nD)
    (h0 : m' ((c.tc : Thread Cert.ReferenceIdeal.nD Cert.ReferenceIdeal.τ).loc Cert.ReferenceIdeal.main_arg0) = gX m c)
    (h1 : m' ((c.tc : Thread Cert.ReferenceIdeal.nD Cert.ReferenceIdeal.τ).loc Cert.ReferenceIdeal.main_arg1) = gW1 m c)
    (h2 : m' ((c.tc : Thread Cert.ReferenceIdeal.nD Cert.ReferenceIdeal.τ).loc Cert.ReferenceIdeal.main_arg2) = gB1 m c)
    (h3 : m' ((c.tc : Thread Cert.ReferenceIdeal.nD Cert.ReferenceIdeal.τ).loc Cert.ReferenceIdeal.main_arg3) = gW2 m c)
    (h4 : m' ((c.tc : Thread Cert.ReferenceIdeal.nD Cert.ReferenceIdeal.τ).loc Cert.ReferenceIdeal.main_arg4) = gB2 m c)
    (hx : ∀ i, ∃ r : ℝ, (gX m c i : EReal) = r) (hW1 : ∀ i, ∃ r : ℝ, (gW1 m c i : EReal) = r) (hb1 : ∀ i, ∃ r : ℝ, (gB1 m c i : EReal) = r) (hW2 : ∀ i, ∃ r : ℝ, (gW2 m c i : EReal) = r) :
    (out_main_v6 (STEP^[81] (entryContents preI m' c)) : Vec Ideal Cert.KernelIdeal.S384x384 .f32) = segOut (stAt m c 81).1 := by
  funext i
  have ei : i = ix2 (i 0 : Fin 384) (i 1 : Fin 384) := idx2_ext rfl rfl
  rw [ei]
  generalize (i 0 : Fin 384) = R
  generalize (i 1 : Fin 384) = C
  refine (out6_apply m' c R C).trans (Eq.trans ?_ (seg_args m c R C).symm)
  rw [h0, h1, h2, h3, h4]
  choose w hw using fun n t : ℕ => (show ∃ r : ℝ, rdW1 (gW1 m c) n t = r from hW1 _)
  choose b hb using fun n : ℕ => (show ∃ r : ℝ, rdB1 (gB1 m c) n = r from hb1 _)
  choose x hX using fun j ci r q : ℕ => (show ∃ z : ℝ, imgS (gX m c) j ci r q = z from hx _)
  choose v hv using fun o n t : ℕ => (show ∃ r : ℝ, rdW2 (gW2 m c) o n t = r from hW2 _)
  have ew : rdW1 (gW1 m c) = fun n t => (w n t : EReal) := funext fun n => funext fun t => hw n t
  have eb : rdB1 (gB1 m c) = fun n => (b n : EReal) := funext hb
  have ex : ∀ j, imgS (gX m c) j = fun ci r q => (x j ci r q : EReal) := fun j => funext fun ci => funext fun r => funext fun q => hX j ci r q
  have ev : ∀ o, rdW2 (gW2 m c) o = fun n t => (v o n t : EReal) := fun o => funext fun n => funext fun t => hv o n t
  unfold tileR
  rw [show ((1 : Fin 2).val) = 1 from rfl, show ((0 : Fin 2).val) = 0 from rfl, ew, eb, ev 1, ev 0]
  simp only [ex]
  exact seg_alg w b x (v 1) (v 0) (gB2 m c (ix1 1)) (gB2 m c (ix1 0)) R.val C.val R.isLt C.isLt

/-- The first results, where the second are equal. -/
theorem head_eq (c : Dev Cert.KernelIdeal.nD)
    (h : (out_main_v6 (STEP^[81] (entryContents preI m' c)) : Vec Ideal Cert.KernelIdeal.S384x384 .f32) = segOut (stAt m c 81).1) :
    (out_main_v30 (STEP^[81] (entryContents preI m' c)) : Vec Ideal Cert.KernelIdeal.S1x384x384 .f32) = headOut (stAt m c 81).1 := by
  funext i
  have ei : i = ix3 (0 : Fin 1) (i 1 : Fin 384) (i 2 : Fin 384) := Shape.idx3_ext (Nat.lt_one_iff.mp (i 0).isLt) rfl rfl
  rw [ei]
  generalize (i 1 : Fin 384) = R
  generalize (i 2 : Fin 384) = C
  exact (out30_apply _ R C).trans ((congrArg (fun S => headS S R C) h).trans (head_apply _ R C).symm)

end Cert.Equal
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Run
public import proofs.«01_k».proof.Proof.Gen.Pre_inputs_finite
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame, at every memory. -/
theorem frame_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both results of the kernel are the reference's. -/
theorem algebraic : algebraic_KernelIdeal_ReferenceIdeal_pre_inputs_finite := by
  intro m ρ m' ρ' hpre hagree
  refine ⟨_, _, Cert.KernelIdeal.Body.run_value m ρ, (θ_run Cert.ReferenceIdeal.defs _ _).mono (fun _ h c => ?_) (Cert.ReferenceIdeal.Value.run (F := Ideal) m' ρ')⟩
  obtain ⟨h0, h1, h2, h3, h4⟩ := hagree c
  obtain ⟨hx, hW1, hb1, hW2⟩ := Cert.Pre_inputs_finite.Body.reals _ _ _ _ _ (hpre c)
  have e := Cert.Equal.seg_eq m m' c h0 h1 h2 h3 h4 hx hW1 hb1 hW2
  exact ⟨(h c).1.trans (Cert.Equal.head_eq m m' c e), (h c).2.1.trans e, (h c).2.2⟩

/-- Every claim: the three frames, that the ideal program is the kernel, and the equality of both results. -/
theorem claim : Cert.Claim := ⟨Cert.Kernel.Gen.facts, Cert.KernelIdeal.Gen.facts, Cert.ReferenceIdeal.Gen.facts, Cert.Pre_inputs_finite.Gen.facts,
  fun m ρ _ => Cert.Kernel.Body.frame m ρ, fun m ρ _ => Cert.KernelIdeal.Body.frame m ρ, fun m ρ _ => Cert.KernelIdeal.Body.frame m ρ,
  frame_ReferenceIdeal, fun m ρ _ => frame_ReferenceIdeal m ρ trivial, (trivial : preserves_Kernel_KernelIdeal), algebraic⟩

end Cert.Proof

end
